-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x3072x5120 : Shape := ⟨3, ![6, 3072, 5120]⟩
abbrev S6x3072 : Shape := ⟨2, ![6, 3072]⟩
abbrev S5120x1280 : Shape := ⟨2, ![5120, 1280]⟩
abbrev S1280 : Shape := ⟨1, ![1280]⟩
abbrev S6x1280x5120 : Shape := ⟨3, ![6, 1280, 5120]⟩
abbrev S6x1280 : Shape := ⟨2, ![6, 1280]⟩
abbrev S1x1280 : Shape := ⟨2, ![1, 1280]⟩
abbrev S6x3072x1280 : Shape := ⟨3, ![6, 3072, 1280]⟩
abbrev S6x8x1280 : Shape := ⟨3, ![6, 8, 1280]⟩
abbrev S1x512x5120 : Shape := ⟨3, ![1, 512, 5120]⟩
abbrev S1x1280x5120 : Shape := ⟨3, ![1, 1280, 5120]⟩
abbrev S1x512x1280 : Shape := ⟨3, ![1, 512, 1280]⟩
abbrev S1x8x1280 : Shape := ⟨3, ![1, 8, 1280]⟩
abbrev S1x512 : Shape := ⟨2, ![1, 512]⟩
abbrev S8x512 : Shape := ⟨2, ![8, 512]⟩
abbrev S512x8 : Shape := ⟨2, ![512, 8]⟩
abbrev S512x1 : Shape := ⟨2, ![512, 1]⟩
abbrev S512x5120 : Shape := ⟨2, ![512, 5120]⟩
abbrev S512x1280 : Shape := ⟨2, ![512, 1280]⟩
abbrev S1280x5120 : Shape := ⟨2, ![1280, 5120]⟩
abbrev S1x1x1280 : Shape := ⟨3, ![1, 1, 1280]⟩
abbrev S7x1280 : Shape := ⟨2, ![7, 1280]⟩
abbrev S1x7x1280 : Shape := ⟨3, ![1, 7, 1280]⟩
abbrev S6x1280x3072 : Shape := ⟨3, ![6, 1280, 3072]⟩
abbrev S1x1280x512 : Shape := ⟨3, ![1, 1280, 512]⟩
abbrev S512 : Shape := ⟨1, ![512]⟩
abbrev S1280x512 : Shape := ⟨2, ![1280, 512]⟩
abbrev S1x1280x3072 : Shape := ⟨3, ![1, 1280, 3072]⟩
abbrev S1x3072x1024 : Shape := ⟨3, ![1, 3072, 1024]⟩
abbrev S1x1280x1024 : Shape := ⟨3, ![1, 1280, 1024]⟩
abbrev S1280x3072 : Shape := ⟨2, ![1280, 3072]⟩
abbrev S3072x1024 : Shape := ⟨2, ![3072, 1024]⟩
abbrev S1280x1024 : Shape := ⟨2, ![1280, 1024]⟩
abbrev S1024x1280 : Shape := ⟨2, ![1024, 1280]⟩
abbrev S1x3072 : Shape := ⟨2, ![1, 3072]⟩
abbrev S8x3072 : Shape := ⟨2, ![8, 3072]⟩
abbrev S3072x8 : Shape := ⟨2, ![3072, 8]⟩
abbrev S3072x1 : Shape := ⟨2, ![3072, 1]⟩

abbrev nBuf : Space → Nat
  | .hbm => 22
  | .vmem => 63
  | .smem => 0
  | _ => 0

abbrev bufTy : (tb : Table) → Fin (tcTables nBuf tb) → BufTy
  | .hbm, ⟨0, _⟩ => ⟨S6x3072x5120, .fp8e4m3⟩
  | .hbm, ⟨1, _⟩ => ⟨S6x3072, .f32⟩
  | .hbm, ⟨2, _⟩ => ⟨S5120x1280, .fp8e4m3⟩
  | .hbm, ⟨3, _⟩ => ⟨S1280, .f32⟩
  | .hbm, ⟨4, _⟩ => ⟨S6x1280x5120, .fp8e4m3⟩
  | .hbm, ⟨5, _⟩ => ⟨S6x1280, .f32⟩
  | .hbm, ⟨6, _⟩ => ⟨S6x3072x5120, .fp8e5m2⟩
  | .hbm, ⟨7, _⟩ => ⟨S6x3072, .f32⟩
  | .hbm, ⟨8, _⟩ => ⟨S6x1280x5120, .fp8e5m2⟩
  | .hbm, ⟨9, _⟩ => ⟨S6x1280, .f32⟩
  | .hbm, ⟨10, _⟩ => ⟨S1x1280, .f32⟩
  | .hbm, ⟨11, _⟩ => ⟨S6x3072x1280, .f32⟩
  | .hbm, ⟨12, _⟩ => ⟨S6x3072x1280, .f32⟩
  | .hbm, ⟨13, _⟩ => ⟨S6x8x1280, .f32⟩
  | .hbm, ⟨14, _⟩ => ⟨S6x3072x1280, .f32⟩
  | .hbm, ⟨15, _⟩ => ⟨S6x3072x1280, .bf16⟩
  | .hbm, ⟨16, _⟩ => ⟨S6x1280x3072, .bf16⟩
  | .hbm, ⟨17, _⟩ => ⟨S6x3072x1280, .bf16⟩
  | .hbm, ⟨18, _⟩ => ⟨S6x1280x3072, .bf16⟩
  | .hbm, ⟨19, _⟩ => ⟨S6x3072x5120, .bf16⟩
  | .hbm, ⟨20, _⟩ => ⟨S6x1280x5120, .bf16⟩
  | .hbm, ⟨21, _⟩ => ⟨S5120x1280, .bf16⟩
  | .local _ .vmem, ⟨0, _⟩ => ⟨S1x512x5120, .fp8e4m3⟩
  | .local _ .vmem, ⟨1, _⟩ => ⟨S1x512x5120, .fp8e4m3⟩
  | .local _ .vmem, ⟨2, _⟩ => ⟨S5120x1280, .fp8e4m3⟩
  | .local _ .vmem, ⟨3, _⟩ => ⟨S1x1280x5120, .fp8e5m2⟩
  | .local _ .vmem, ⟨4, _⟩ => ⟨S1x1280x5120, .fp8e5m2⟩
  | .local _ .vmem, ⟨5, _⟩ => ⟨S6x3072, .f32⟩
  | .local _ .vmem, ⟨6, _⟩ => ⟨S1x1280, .f32⟩
  | .local _ .vmem, ⟨7, _⟩ => ⟨S6x1280, .f32⟩
  | .local _ .vmem, ⟨8, _⟩ => ⟨S1x512x1280, .f32⟩
  | .local _ .vmem, ⟨9, _⟩ => ⟨S1x512x1280, .f32⟩
  | .local _ .vmem, ⟨10, _⟩ => ⟨S1x512x1280, .f32⟩
  | .local _ .vmem, ⟨11, _⟩ => ⟨S1x512x1280, .f32⟩
  | .local _ .vmem, ⟨12, _⟩ => ⟨S1x8x1280, .f32⟩
  | .local _ .vmem, ⟨13, _⟩ => ⟨S1x8x1280, .f32⟩
  | .local _ .vmem, ⟨14, _⟩ => ⟨S1x512x5120, .fp8e5m2⟩
  | .local _ .vmem, ⟨15, _⟩ => ⟨S1x512x5120, .fp8e5m2⟩
  | .local _ .vmem, ⟨16, _⟩ => ⟨S1x1280x5120, .fp8e4m3⟩
  | .local _ .vmem, ⟨17, _⟩ => ⟨S1x1280x5120, .fp8e4m3⟩
  | .local _ .vmem, ⟨18, _⟩ => ⟨S1x512x1280, .f32⟩
  | .local _ .vmem, ⟨19, _⟩ => ⟨S1x512x1280, .f32⟩
  | .local _ .vmem, ⟨20, _⟩ => ⟨S1x512x1280, .f32⟩
  | .local _ .vmem, ⟨21, _⟩ => ⟨S1x512x1280, .f32⟩
  | .local _ .vmem, ⟨22, _⟩ => ⟨S1x8x1280, .f32⟩
  | .local _ .vmem, ⟨23, _⟩ => ⟨S1x8x1280, .f32⟩
  | .local _ .vmem, ⟨24, _⟩ => ⟨S6x3072, .f32⟩
  | .local _ .vmem, ⟨25, _⟩ => ⟨S6x1280, .f32⟩
  | .local _ .vmem, ⟨26, _⟩ => ⟨S6x1280, .f32⟩
  | .local _ .vmem, ⟨27, _⟩ => ⟨S1x512x1280, .f32⟩
  | .local _ .vmem, ⟨28, _⟩ => ⟨S1x512x1280, .f32⟩
  | .local _ .vmem, ⟨29, _⟩ => ⟨S1x512x1280, .bf16⟩
  | .local _ .vmem, ⟨30, _⟩ => ⟨S1x512x1280, .bf16⟩
  | .local _ .vmem, ⟨31, _⟩ => ⟨S1x1280x512, .bf16⟩
  | .local _ .vmem, ⟨32, _⟩ => ⟨S1x1280x512, .bf16⟩
  | .local _ .vmem, ⟨33, _⟩ => ⟨S1x512x1280, .bf16⟩
  | .local _ .vmem, ⟨34, _⟩ => ⟨S1x512x1280, .bf16⟩
  | .local _ .vmem, ⟨35, _⟩ => ⟨S1x1280x512, .bf16⟩
  | .local _ .vmem, ⟨36, _⟩ => ⟨S1x1280x512, .bf16⟩
  | .local _ .vmem, ⟨37, _⟩ => ⟨S1x512x1280, .bf16⟩
  | .local _ .vmem, ⟨38, _⟩ => ⟨S1x512x1280, .bf16⟩
  | .local _ .vmem, ⟨39, _⟩ => ⟨S1x512x1280, .bf16⟩
  | .local _ .vmem, ⟨40, _⟩ => ⟨S1x512x1280, .bf16⟩
  | .local _ .vmem, ⟨41, _⟩ => ⟨S1x1280x5120, .fp8e5m2⟩
  | .local _ .vmem, ⟨42, _⟩ => ⟨S1x1280x5120, .fp8e5m2⟩
  | .local _ .vmem, ⟨43, _⟩ => ⟨S5120x1280, .fp8e4m3⟩
  | .local _ .vmem, ⟨44, _⟩ => ⟨S1x1280, .f32⟩
  | .local _ .vmem, ⟨45, _⟩ => ⟨S1x512x5120, .bf16⟩
  | .local _ .vmem, ⟨46, _⟩ => ⟨S1x512x5120, .bf16⟩
  | .local _ .vmem, ⟨47, _⟩ => ⟨S5120x1280, .bf16⟩
  | .local _ .vmem, ⟨48, _⟩ => ⟨S1x1280x3072, .bf16⟩
  | .local _ .vmem, ⟨49, _⟩ => ⟨S1x1280x3072, .bf16⟩
  | .local _ .vmem, ⟨50, _⟩ => ⟨S1x3072x1024, .fp8e5m2⟩
  | .local _ .vmem, ⟨51, _⟩ => ⟨S1x3072x1024, .fp8e5m2⟩
  | .local _ .vmem, ⟨52, _⟩ => ⟨S1x1280x1024, .bf16⟩
  | .local _ .vmem, ⟨53, _⟩ => ⟨S1x1280x1024, .bf16⟩
  | .local _ .vmem, ⟨54, _⟩ => ⟨S1x1280x3072, .bf16⟩
  | .local _ .vmem, ⟨55, _⟩ => ⟨S1x1280x3072, .bf16⟩
  | .local _ .vmem, ⟨56, _⟩ => ⟨S1x3072x1024, .fp8e4m3⟩
  | .local _ .vmem, ⟨57, _⟩ => ⟨S1x3072x1024, .fp8e4m3⟩
  | .local _ .vmem, ⟨58, _⟩ => ⟨S6x3072, .f32⟩
  | .local _ .vmem, ⟨59, _⟩ => ⟨S1024x1280, .bf16⟩
  | .local _ .vmem, ⟨60, _⟩ => ⟨S1024x1280, .bf16⟩
  | .local _ .vmem, ⟨61, _⟩ => ⟨S3072x1024, .bf16⟩
  | .local _ .vmem, ⟨62, _⟩ => ⟨S1280x1024, .f32⟩
  | _, _ => ⟨S6x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg12_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg5_1 : Ref sig .tc := ⟨.vmem, 46, rfl⟩
abbrev cc2_scratch0 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg3_1 : Ref sig .tc := ⟨.vmem, 60, rfl⟩
abbrev cc4_scratch0 : Ref sig .tc := ⟨.vmem, 61, rfl⟩
abbrev cc4_scratch1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem12_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem4_0 : DmaSem sig := 44
abbrev cc2_sem5_0 : DmaSem sig := 45
abbrev cc2_sem5_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc4_sem0_0 : DmaSem sig := 53
abbrev cc4_sem0_1 : DmaSem sig := 54
abbrev cc4_sem1_0 : DmaSem sig := 55
abbrev cc4_sem1_1 : DmaSem sig := 56
abbrev cc4_sem2_0 : DmaSem sig := 57
abbrev cc4_sem3_0 : DmaSem sig := 58
abbrev cc4_sem3_1 : DmaSem sig := 59

abbrev nD : Nat := 1
abbrev τ : Topo := Topo.v7x

variable {F : FTy → Type} [FloatOps F]

abbrev grid0 : Pipeline.Grid := ⟨2, ![6, 6], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg0 : BitVec 32 := BitVec.ofNat 32 (i 0).val
  let v2 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v3 : Index := Scalar.indexCast v1
  ![v2.toNat, v3.toNat]
def k0_off2 (i : grid0.Coords) : Fin 2 → Nat :=
  let arg0 : BitVec 32 := BitVec.ofNat 32 (i 0).val
  let v27 : Index := Scalar.indexCast arg0
  let c0_13 : Index := 0#32
  ![v27.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5120x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1280x5120 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S6x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S6x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![6, 6], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let arg0 : BitVec 32 := BitVec.ofNat 32 (i 0).val
  let v2 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v3 : Index := Scalar.indexCast v1
  ![v2.toNat, v3.toNat]
def k1_off2 (i : grid1.Coords) : Fin 2 → Nat :=
  let arg0 : BitVec 32 := BitVec.ofNat 32 (i 0).val
  let v16 : Index := Scalar.indexCast arg0
  let c0_5 : Index := 0#32
  ![v16.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x5120 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1280x5120 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S6x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S6x1280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S6x1280 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x1280 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x1280 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1280x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1280 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1280x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨2, ![6, 6], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1280x5120 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S5120x1280 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1280 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x5120 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![6, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x1280x3072 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x3072x1024 .fp8e5m2 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1280x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![5, 6], ![false, false]⟩

def k4_off1 (i : grid4.Coords) : Fin 2 → Nat :=
  let arg1 : BitVec 32 := BitVec.ofNat 32 (i 1).val
  let v0 : Index := Scalar.indexCast arg1
  let c0 : Index := 0#32
  ![v0.toNat, 0]
def k4_cond2 (i : grid4.Coords) : BitVec 1 :=
  let arg1 : BitVec 32 := BitVec.ofNat 32 (i 1).val
  let c5_i32 : BitVec 32 := 5#32
  let v27 : BitVec 1 := Scalar.cmpi .eq arg1 c5_i32
  let v28 : BitVec 32 := Scalar.extui v27
  let c0_i32_15 : BitVec 32 := 0#32
  let v29 : BitVec 1 := Scalar.cmpi .ne v28 c0_i32_15
  v29

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x1280x3072 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x3072x1024 .fp8e4m3 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S6x3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x1280 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]
-- ==== ReferenceIdeal.lean ====
abbrev S6x3072x5120 : Shape := ⟨3, ![6, 3072, 5120]⟩
abbrev S6x3072 : Shape := ⟨2, ![6, 3072]⟩
abbrev S5120x1280 : Shape := ⟨2, ![5120, 1280]⟩
abbrev S1280 : Shape := ⟨1, ![1280]⟩
abbrev S6x1280x5120 : Shape := ⟨3, ![6, 1280, 5120]⟩
abbrev S6x1280 : Shape := ⟨2, ![6, 1280]⟩
abbrev S6x3072x1280 : Shape := ⟨3, ![6, 3072, 1280]⟩
abbrev S6x3072x1 : Shape := ⟨3, ![6, 3072, 1]⟩
abbrev S1x1x1280 : Shape := ⟨3, ![1, 1, 1280]⟩
abbrev S6x1x1280 : Shape := ⟨3, ![6, 1, 1280]⟩
abbrev S1x1280 : Shape := ⟨2, ![1, 1280]⟩

abbrev nBuf : Space → Nat
  | .hbm => 14
  | .vmem => 14
  | .smem => 0
  | _ => 0

abbrev bufTy : (tb : Table) → Fin (tcTables nBuf tb) → BufTy
  | .hbm, ⟨0, _⟩ => ⟨S6x3072x5120, .fp8e4m3⟩
  | .hbm, ⟨1, _⟩ => ⟨S6x3072, .f32⟩
  | .hbm, ⟨2, _⟩ => ⟨S5120x1280, .fp8e4m3⟩
  | .hbm, ⟨3, _⟩ => ⟨S1280, .f32⟩
  | .hbm, ⟨4, _⟩ => ⟨S6x1280x5120, .fp8e4m3⟩
  | .hbm, ⟨5, _⟩ => ⟨S6x1280, .f32⟩
  | .hbm, ⟨6, _⟩ => ⟨S6x3072x5120, .fp8e5m2⟩
  | .hbm, ⟨7, _⟩ => ⟨S6x3072, .f32⟩
  | .hbm, ⟨8, _⟩ => ⟨S6x1280x5120, .fp8e5m2⟩
  | .hbm, ⟨9, _⟩ => ⟨S6x1280, .f32⟩
  | .hbm, ⟨10, _⟩ => ⟨S6x3072x5120, .bf16⟩
  | .hbm, ⟨11, _⟩ => ⟨S5120x1280, .bf16⟩
  | .hbm, ⟨12, _⟩ => ⟨S6x1280x5120, .bf16⟩
  | .hbm, ⟨13, _⟩ => ⟨S6x3072x1280, .f32⟩
  | .local _ .vmem, ⟨0, _⟩ => ⟨S6x3072x5120, .fp8e4m3⟩
  | .local _ .vmem, ⟨1, _⟩ => ⟨S6x3072, .f32⟩
  | .local _ .vmem, ⟨2, _⟩ => ⟨S5120x1280, .fp8e4m3⟩
  | .local _ .vmem, ⟨3, _⟩ => ⟨S1280, .f32⟩
  | .local _ .vmem, ⟨4, _⟩ => ⟨S6x1280x5120, .fp8e4m3⟩
  | .local _ .vmem, ⟨5, _⟩ => ⟨S6x1280, .f32⟩
  | .local _ .vmem, ⟨6, _⟩ => ⟨S6x3072x5120, .fp8e5m2⟩
  | .local _ .vmem, ⟨7, _⟩ => ⟨S6x3072, .f32⟩
  | .local _ .vmem, ⟨8, _⟩ => ⟨S6x1280x5120, .fp8e5m2⟩
  | .local _ .vmem, ⟨9, _⟩ => ⟨S6x1280, .f32⟩
  | .local _ .vmem, ⟨10, _⟩ => ⟨S6x3072x5120, .bf16⟩
  | .local _ .vmem, ⟨11, _⟩ => ⟨S5120x1280, .bf16⟩
  | .local _ .vmem, ⟨12, _⟩ => ⟨S6x1280x5120, .bf16⟩
  | .local _ .vmem, ⟨13, _⟩ => ⟨S6x3072x1280, .f32⟩
  | _, _ => ⟨S6x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S6x3072x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1280x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x3072x5120 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1280x5120 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x3072x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5120x1280 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1280x5120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x3072x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.K0.lean ====
/- One region of the program: the statistics kernel. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 6 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

abbrev VO0_6 : View sig .tc .vmem S1x512x1280 .f32 := (Memref.whole cc0_stg6_0 : Memref sig .tc .vmem S1x512x1280 .f32).view
abbrev VO0_7 : View sig .tc .vmem S1x512x1280 .f32 := (Memref.whole cc0_stg7_0 : Memref sig .tc .vmem S1x512x1280 .f32).view
abbrev VO0_8 : View sig .tc .vmem S1x8x1280 .f32 := (Memref.whole cc0_stg8_0 : Memref sig .tc .vmem S1x8x1280 .f32).view
abbrev ms0_0 (t : Fin cfg0.N) : Memref sig .tc .vmem S1x512x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280x5120 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x1280 .f32 := win0_8.stage (cfg0.slots t 8)
abbrev hs0_8 (t : Fin cfg0.N) : (ms0_8 t).IsWhole := hstage0_8 ((cfg0.slots t 8).cast nbuf0_8)

set_option maxHeartbeats 1000000 in
noncomputable def kernelRun0_A (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) :
    Σ' (L6 : List (View.Piece (Elt F) S1x512x1280 .f32)), Σ' (L7 : List (View.Piece (Elt F) S1x512x1280 .f32)), { L8 : List (View.Piece (Elt F) S1x8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10) K } := by
  refine ⟨?_, ?_, ?_, fun E K => ?run⟩
  case run =>
    simp only [cc0_stats_eq_skeleton]; unfold cc0_stats_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

set_option maxHeartbeats 1000000 in
noncomputable def kernelRun0_B (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) :
    Σ' (L6 : List (View.Piece (Elt F) S1x512x1280 .f32)), Σ' (L7 : List (View.Piece (Elt F) S1x512x1280 .f32)), { L8 : List (View.Piece (Elt F) S1x8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xo8) L8)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10) K } := by
  refine ⟨?_, ?_, ?_, fun E K => ?run⟩
  case run =>
    simp only [cc0_stats_eq_skeleton]; unfold cc0_stats_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact H8

theorem cover0_A_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x512x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1x512x1280.size (by sl_kernel_rfl) y

def out0_A_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x512x1280 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x512x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1x512x1280.size (by sl_kernel_rfl) y

def out0_A_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x512x1280 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem cover0_A_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x8x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledBy (kernelRun0_A c i arg2 harg2 arg3 harg3 arg4 harg4 arg5 harg5 arg6 harg6 arg7 harg7 arg8 harg8 arg9 harg9 arg10 harg10 hc0 x0 x1 x2 x3 x4 x5).2.2.1 ![1, 1, 1280] (by sl_kernel_rfl) y

def out0_A_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x8x1280 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5).2.2.1)

theorem cover0_B_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) (y : S1x512x1280.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo8).1 S1x512x1280.size (by sl_kernel_rfl) y

def out0_B_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x512x1280 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo8).1)

theorem cover0_B_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) (y : S1x512x1280.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo8).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo8).2.1 S1x512x1280.size (by sl_kernel_rfl) y

def out0_B_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x512x1280 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xo8).2.1)

def out0_B_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x8x1280 .f32 :=
  arg10.view.read (Elt F) (arg10.view.writes (Elt F) (harg10.unread xo8) (kernelRun0_B c i arg2 harg2 arg3 harg3 arg4 harg4 arg5 harg5 arg6 harg6 arg7 harg7 arg8 harg8 arg9 harg9 arg10 harg10 hc0 x0 x1 x2 x3 x4 x5 xo8).2.2.1)

def outsAt0 (c : Dev nD) : (n : ℕ) → n < cfg0.N → Vec F S1x512x1280 .f32 × Vec F S1x512x1280 .f32 × Vec F S1x8x1280 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 6 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

theorem outsAt0_A (c : Dev nD) (t : Fin cfg0.N) (h0 : t.val % 6 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 6 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]
theorem after0_8 (c : Dev nD) (t : Fin cfg0.N) : (dat V c).after 8 t = (outsAt0 V c t.val t.isLt).2.2 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_8_B (c : Dev nD) (t : Fin cfg0.N) (h0 : ¬t.val % 6 = 0) (d) :
    (dat V c).before 8 t d = (outsAt0 V c (t.val - 1) (Nat.lt_of_le_of_lt (Nat.sub_le _ _) t.isLt)).2.2 := by
  have hN : t.val < 36 := lt_of_lt_of_eq t.isLt (show cfg0.N = 36 from N_0)
  rw [Dat.before_out_kept _ 8 rfl t (by omega) (Bool.eq_false_iff.mpr fun h => by have := (flush0_8 _).mp h; dsimp only at this; omega)
    (fun _ => rfl) (fun _ _ => rfl)]
  dsimp only [dat]

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d)))

def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).Φ t.succ = (dat V c).Φ t.castSucc from rfl,
    show (dat V c).owesAt () t.succ = (dat V c).owesAt () t.castSucc from rfl,
    after0_0, after0_1, after0_2, after0_3, after0_4, after0_5, after0_6, after0_7, after0_8]
  have hN : t.val < 36 := lt_of_lt_of_eq t.isLt (show cfg0.N = 36 from N_0)
  by_cases h0 : t.val % 6 = 0
  · rw [outsAt0_A V c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_8_B V c t h0]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, ⟨%e6, H6⟩, ⟨%e7, H7⟩, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _)
    unfold owns; iexists _; isplitr
    swap; · iexact H8
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Proof.K0

end
-- ==== Proof.K1.lean ====
/- One region of the program: the gradient kernel. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev VO1_8 : View sig .tc .vmem S1x512x1280 .f32 := (Memref.whole cc1_stg8_0 : Memref sig .tc .vmem S1x512x1280 .f32).view
abbrev VO1_9 : View sig .tc .vmem S1x512x1280 .bf16 := (Memref.whole cc1_stg9_0 : Memref sig .tc .vmem S1x512x1280 .bf16).view
abbrev VO1_10 : View sig .tc .vmem S1x1280x512 .bf16 := (Memref.whole cc1_stg10_0 : Memref sig .tc .vmem S1x1280x512 .bf16).view
abbrev VO1_11 : View sig .tc .vmem S1x512x1280 .bf16 := (Memref.whole cc1_stg11_0 : Memref sig .tc .vmem S1x512x1280 .bf16).view
abbrev VO1_12 : View sig .tc .vmem S1x1280x512 .bf16 := (Memref.whole cc1_stg12_0 : Memref sig .tc .vmem S1x1280x512 .bf16).view
abbrev ms1_0 (t : Fin cfg1.N) : Memref sig .tc .vmem S1x512x5120 .fp8e5m2 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1280x5120 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x1280 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S6x3072 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S6x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6x1280 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1280 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512x1280 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1280x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512x1280 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1280x512 .bf16 := win1_12.stage (cfg1.slots t 12)
abbrev hs1_12 (t : Fin cfg1.N) : (ms1_12 t).IsWhole := hstage1_12 ((cfg1.slots t 12).cast nbuf1_12)

set_option maxHeartbeats 1000000 in
noncomputable def kernelRun1_A (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) :
    Σ' (L8 : List (View.Piece (Elt F) S1x512x1280 .f32)), Σ' (L9 : List (View.Piece (Elt F) S1x512x1280 .bf16)), Σ' (L10 : List (View.Piece (Elt F) S1x1280x512 .bf16)), Σ' (L11 : List (View.Piece (Elt F) S1x512x1280 .bf16)), { L12 : List (View.Piece (Elt F) S1x1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc1_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_grad_eq_skeleton]; unfold cc1_grad_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

theorem cover1_A_8 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S1x512x1280.size (by sl_kernel_rfl) y

def out1_A_8 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

theorem cover1_A_9 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 S1x512x1280.size (by sl_kernel_rfl) y

def out1_A_9 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .bf16 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1)

theorem cover1_A_10 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x1280x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 S1x1280x512.size (by sl_kernel_rfl) y

def out1_A_10 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x1280x512 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1)

theorem cover1_A_11 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1 S1x512x1280.size (by sl_kernel_rfl) y

def out1_A_11 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .bf16 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1)

theorem cover1_A_12 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x1280x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1 S1x1280x512.size (by sl_kernel_rfl) y

def out1_A_12 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x1280x512 .bf16 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1)

def outsAt1 (c : Dev nD) (t : Fin cfg1.N) : Vec F S1x512x1280 .f32 × Vec F S1x512x1280 .bf16 × Vec F S1x1280x512 .bf16 × Vec F S1x512x1280 .bf16 × Vec F S1x1280x512 .bf16 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t).1
    | ⟨9, _⟩ => (outsAt1 V c t).2.1
    | ⟨10, _⟩ => (outsAt1 V c t).2.2.1
    | ⟨11, _⟩ => (outsAt1 V c t).2.2.2.1
    | ⟨12, _⟩ => (outsAt1 V c t).2.2.2.2
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t).1 := by dsimp only [dat]
theorem after1_9 (c : Dev nD) (t : Fin cfg1.N) : (dat V c).after 9 t = (outsAt1 V c t).2.1 := by dsimp only [dat]
theorem after1_10 (c : Dev nD) (t : Fin cfg1.N) : (dat V c).after 10 t = (outsAt1 V c t).2.2.1 := by dsimp only [dat]
theorem after1_11 (c : Dev nD) (t : Fin cfg1.N) : (dat V c).after 11 t = (outsAt1 V c t).2.2.2.1 := by dsimp only [dat]
theorem after1_12 (c : Dev nD) (t : Fin cfg1.N) : (dat V c).after 12 t = (outsAt1 V c t).2.2.2.2 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d)))

def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t)
    ∗ owns (c : Thread nD τ) (ms1_11 t) fullShare ((dat V c).after 11 t)
    ∗ owns (c : Thread nD τ) (ms1_12 t) fullShare ((dat V c).after 12 t))

set_option maxHeartbeats 1200000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).Φ t.succ = (dat V c).Φ t.castSucc from rfl,
    show (dat V c).owesAt () t.succ = (dat V c).owesAt () t.castSucc from rfl,
    after1_0, after1_1, after1_2, after1_3, after1_4, after1_5, after1_6, after1_7, after1_8, after1_9, after1_10, after1_11, after1_12]
  unfold outsAt1
  unfold out1_A_8 out1_A_9 out1_A_10 out1_A_11 out1_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, ⟨%e8, H8⟩, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover1_A_11 c _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover1_A_12 c _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Proof.K1

end
-- ==== Proof.K2.lean ====
/- One region of the program: the kernel for dx. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val % 36 = 0 :=
  (fun t => by
    have ht : t.val < 36 := Nat.lt_of_lt_of_eq t.isLt N_2
    have e0 : (grid2.coords t 0).val = t.val / 6 % 6 := Pipeline.Grid.coords_val t 0 (by decide) rfl
    have e1 : (grid2.coords t 1).val = t.val / 1 % 6 := Pipeline.Grid.coords_val t 1 (by decide) rfl
    simp only [cond2_0, e0, e1]
    word_cmp
   : ∀ t : Fin grid2.N, cond2_0 (grid2.coords t) ↔ t.val % 36 = 0)

abbrev VO2_5 : View sig .tc .vmem S1x512x5120 .bf16 := (Memref.whole cc2_stg5_0 : Memref sig .tc .vmem S1x512x5120 .bf16).view
abbrev ms2_0 (t : Fin cfg2.N) : Memref sig .tc .vmem S1x512x1280 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1280 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1280x5120 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5120x1280 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1280 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x5120 .bf16 := win2_5.stage (cfg2.slots t 5)
abbrev hs2_5 (t : Fin cfg2.N) : (ms2_5 t).IsWhole := hstage2_5 ((cfg2.slots t 5).cast nbuf2_5)
abbrev scM2_0 : Memref sig .tc .vmem S5120x1280 .bf16 := Memref.whole cc2_scratch0
abbrev VS2_0 : View sig .tc .vmem S5120x1280 .bf16 := scM2_0.view

theorem PhiA_eq (c : Dev nD) :
    (Pipeline.ΦA spec2 c : sProp 𝕄)
      = iprop(iprop((∃ d, owns (c : Thread nD τ) scM2_0 fullShare d)) ∗ (Pipeline.scopedRestBut spec2 c [cc2_scratch0] ∗ ∃ r, prngReg c r)) := by
  unfold Pipeline.ΦA; rw [scopedRest2_split]; simp only [scM2_0, owns_whole]
  exact sep_assoc.antisymm sep_assoc'

set_option maxHeartbeats 1000000 in
noncomputable def kernelRun2_A (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) :
    Σ' (L5 : List (View.Piece (Elt F) S1x512x5120 .bf16)), { LS0 : List (View.Piece (Elt F) S5120x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_dx i arg2 harg2 arg3 harg3 arg4 harg4 arg5 harg5 arg6 harg6 arg7 harg7 arg8 harg8) K } := by
  refine ⟨?_, ?_, fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

set_option maxHeartbeats 1000000 in
noncomputable def kernelRun2_B (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) :
    Σ' (L5 : List (View.Piece (Elt F) S1x512x5120 .bf16)), { LS0 : List (View.Piece (Elt F) S5120x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2_dx i arg2 harg2 arg3 harg3 arg4 harg4 arg5 harg5 arg6 harg6 arg7 harg7 arg8 harg8) K } := by
  refine ⟨?_, [], fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

theorem cover2_A_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (y : S1x512x5120.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S1x512x5120.size (by sl_kernel_rfl) y

def out2_A_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) : Vec F S1x512x5120 .bf16 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

theorem scover2_A_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (y : S5120x1280.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S5120x1280.size (by sl_kernel_rfl) y

def sout2_A_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) : Vec F S5120x1280 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

theorem cover2_B_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) (y : S1x512x5120.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S1x512x5120.size (by sl_kernel_rfl) y

def out2_B_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) : Vec F S1x512x5120 .bf16 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

def sout2_B_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) : Vec F S5120x1280 .bf16 := xs0

def outsAt2 (c : Dev nD) : (n : ℕ) → n < cfg2.N → Vec F S1x512x5120 .bf16 × Vec F S5120x1280 .bf16
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 36 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2)

theorem outsAt2_A (c : Dev nD) (t : Fin cfg2.N) (h0 : t.val % 36 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk V c 0 t) (iblk V c 1 t) (iblk V c 2 t) (iblk V c 3 t) (iblk V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk V c 0 t) (iblk V c 1 t) (iblk V c 2 t) (iblk V c 3 t) (iblk V c 4 t)) := by
  obtain ⟨n, hn⟩ := t
  cases n with
  | zero => exact rfl
  | succ n => exact (dif_pos h0).trans rfl

theorem outsAt2_B (c : Dev nD) (t : Fin cfg2.N) (h0 : ¬t.val % 36 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk V c 0 t) (iblk V c 1 t) (iblk V c 2 t) (iblk V c 3 t) (iblk V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk V c 0 t) (iblk V c 1 t) (iblk V c 2 t) (iblk V c 3 t) (iblk V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ (Pipeline.scopedRestBut spec2 c [cc2_scratch0] ∗ ∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2)) ∗ (Pipeline.scopedRestBut spec2 c [cc2_scratch0] ∗ ∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2)) ∗ (Pipeline.scopedRestBut spec2 c [cc2_scratch0] ∗ ∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; exact Pipeline.Dat.Φ_castSucc (PhiS V c) t

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = (outsAt2 V c t.val t.isLt).1 := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d)))

def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t)
    ∗ owns (c : Thread nD τ) (ms2_5 t) fullShare ((dat V c).after 5 t))

set_option maxHeartbeats 3200000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).owesAt () t.succ = (dat V c).owesAt () t.castSucc from rfl,
    after2_0, after2_1, after2_2, after2_3, after2_4, after2_5]
  rw [show (dat V c).Φ t.succ = PhiS V c (t.val + 1) t.isLt from rfl, PhiS_succ]
  have hN : t.val < 36 := lt_of_lt_of_eq t.isLt (show cfg2.N = 36 from N_2)
  by_cases h0 : t.val % 36 = 0
  · by_cases hz : t.val = 0
    · rw [PhiS_castSucc V c t, PhiS_zero V c _ _ hz, PhiA_eq]
      rw [outsAt2_A V c t h0]
      unfold out2_A_5 sout2_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · exfalso; have hN : t.val < 36 := lt_of_lt_of_eq t.isLt (show cfg2.N = 36 from N_2); omega
  · by_cases hz : t.val = 0
    · exfalso; have hN : t.val < 36 := lt_of_lt_of_eq t.isLt (show cfg2.N = 36 from N_2); omega
    · rw [PhiS_castSucc V c t, PhiS_pos V c _ _ hz]
      rw [outsAt2_B V c t h0]
      unfold out2_B_5 sout2_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _ _)

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨HS0, Hg⟩
  isplitl [HS0]
  · iexists _; iexact HS0
  iexact Hg

theorem hout (c : Dev nD) : (dat V c).Φ (Fin.last cfg2.N) ⊢ Pipeline.ΦA spec2 c :=
  Phi_out V c _ (by rw [Fin.val_last]; have : cfg2.N = 36 := N_2; omega)

end Cert.Proof.K2

end
-- ==== Proof.K3.lean ====
/- One region of the program: the kernel for the slot outputs. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S1x1280x3072 := Rect.unit (s := S1x1280x3072) ![0, 0, 0] S1x1280x3072.size inb_S1x1280x3072_S1x1280x3072_0_0_0
abbrev r0_1 : Rect S1x3072x1024 := Rect.unit (s := S1x3072x1024) ![0, 0, 0] S1x3072x1024.size inb_S1x3072x1024_S1x3072x1024_0_0_0
abbrev r0_2 : Rect S1x1280x1024 := Rect.unit (s := S1x1280x1024) ![0, 0, 0] S1x1280x1024.size inb_S1x1280x1024_S1x1280x1024_0_0_0

def out3_2 (x0 : Vec F S1x1280x3072 .bf16) (x1 : Vec F S1x3072x1024 .fp8e5m2) : Vec F S1x1280x1024 .bf16 :=
  View.canon [⟨r0_2, k3_pay1 (View.ld x0 r0_0) (View.ld x1 r0_1)⟩]

theorem cover3_2 (p0 : Vec F S1x1280x1024 .bf16) (y : S1x1280x1024.Idx) :
    ∃ pc ∈ ([⟨r0_2, p0⟩] : List (View.Piece (Elt F) S1x1280x1024 .bf16)), y ∈ pc.1.set :=
  View.cover_of_tiled [⟨r0_2, p0⟩] S1x1280x1024.size (by rfl) y

set_option maxHeartbeats 1000000 in
theorem sound_kernel (c : Dev nD) (E : Set ℕ) (i : grid3.Coords) (arg2 : Memref sig .tc .vmem S1x1280x3072 .bf16) (harg2 : arg2.IsWhole) (arg3 : Memref sig .tc .vmem S1x3072x1024 .fp8e5m2) (harg3 : arg3.IsWhole) (arg4 : Memref sig .tc .vmem S1x1280x1024 .bf16) (harg4 : arg4.IsWhole)
    (x0 : Vec F S1x1280x3072 .bf16) (x1 : Vec F S1x3072x1024 .fp8e5m2) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_dslot i arg2 harg2 arg3 harg3 arg4 harg4) K := by
  simp only [cc3_dslot_eq_skeleton]; unfold cc3_dslot_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out3_2 (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = out3_2 (iblk V c 0 t) (iblk V c 1 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1]
  rw [show (dat V c).Φ t.succ = (dat V c).Φ t.castSucc from rfl,
    show (dat V c).owesAt () t.succ = (dat V c).owesAt () t.castSucc from rfl,
    after3_0, after3_1, after3_2]
  iintro ⟨HΦ, Ho, ⟨%d0, H0⟩, ⟨%d1, H1⟩, ⟨%d2, H2⟩⟩
  iapply (sound_kernel c Set.univ (grid3.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.Proof.K3

end
-- ==== Proof.K4.lean ====
/- One region of the program: the kernel for dphi. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.K4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 6 = 0 :=
  (fun t => by
    have ht : t.val < 30 := Nat.lt_of_lt_of_eq t.isLt N_4
    have e0 : (grid4.coords t 0).val = t.val / 6 % 5 := Pipeline.Grid.coords_val t 0 (by decide) rfl
    have e1 : (grid4.coords t 1).val = t.val / 1 % 6 := Pipeline.Grid.coords_val t 1 (by decide) rfl
    simp only [cond4_0, e0, e1]
    word_cmp
   : ∀ t : Fin grid4.N, cond4_0 (grid4.coords t) ↔ t.val % 6 = 0)

abbrev cond4_1 (i : grid4.Coords) : Prop := k4_cond2 i = 1#1
theorem hcond4_1 : ∀ t : Fin cfg4.N, cond4_1 (grid4.coords t) ↔ t.val % 6 = 5 :=
  (fun t => by
    have ht : t.val < 30 := Nat.lt_of_lt_of_eq t.isLt N_4
    have e0 : (grid4.coords t 0).val = t.val / 6 % 5 := Pipeline.Grid.coords_val t 0 (by decide) rfl
    have e1 : (grid4.coords t 1).val = t.val / 1 % 6 := Pipeline.Grid.coords_val t 1 (by decide) rfl
    simp only [cond4_1, k4_cond2, e0, e1]
    word_cmp
   : ∀ t : Fin grid4.N, cond4_1 (grid4.coords t) ↔ t.val % 6 = 5)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

abbrev VO4_3 : View sig .tc .vmem S1024x1280 .bf16 := (Memref.whole cc4_stg3_0 : Memref sig .tc .vmem S1024x1280 .bf16).view
abbrev ms4_0 (t : Fin cfg4.N) : Memref sig .tc .vmem S1x1280x3072 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x3072x1024 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S6x3072 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1280 .bf16 := win4_3.stage (cfg4.slots t 3)
abbrev hs4_3 (t : Fin cfg4.N) : (ms4_3 t).IsWhole := hstage4_3 ((cfg4.slots t 3).cast nbuf4_3)
abbrev scM4_0 : Memref sig .tc .vmem S3072x1024 .bf16 := Memref.whole cc4_scratch0
abbrev scM4_1 : Memref sig .tc .vmem S1280x1024 .f32 := Memref.whole cc4_scratch1
abbrev VS4_1 : View sig .tc .vmem S1280x1024 .f32 := scM4_1.view

theorem PhiA_eq (c : Dev nD) :
    (Pipeline.ΦA spec4 c : sProp 𝕄)
      = iprop(iprop((∃ d, owns (c : Thread nD τ) scM4_0 fullShare d) ∗ (∃ d, owns (c : Thread nD τ) scM4_1 fullShare d)) ∗ (Pipeline.scopedRestBut spec4 c [cc4_scratch0, cc4_scratch1] ∗ ∃ r, prngReg c r)) := by
  unfold Pipeline.ΦA; rw [scopedRest4_split]; simp only [scM4_0, scM4_1, owns_whole]
  exact sep_assoc.antisymm sep_assoc'

set_option maxHeartbeats 1000000 in
noncomputable def kernelRun4_A (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) :
    Σ' (L3 : List (View.Piece (Elt F) S1024x1280 .bf16)), Σ' (LS1 : List (View.Piece (Elt F) S1280x1024 .f32)), { LT0 : List (View.Piece (Elt F) S3072x1024 .bf16) //
      ∀ (xi3 : Vec F S1024x1280 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨[], ?_, ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
noncomputable def kernelRun4_B (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) :
    Σ' (L3 : List (View.Piece (Elt F) S1024x1280 .bf16)), Σ' (LS1 : List (View.Piece (Elt F) S1280x1024 .f32)), { LT0 : List (View.Piece (Elt F) S3072x1024 .bf16) //
      ∀ (xi3 : Vec F S1024x1280 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨[], ?_, ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
noncomputable def kernelRun4_C (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) :
    Σ' (L3 : List (View.Piece (Elt F) S1024x1280 .bf16)), Σ' (LS1 : List (View.Piece (Elt F) S1280x1024 .f32)), { LT0 : List (View.Piece (Elt F) S3072x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨?_, ?_, ?_, fun E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

def out4_A_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) : Vec F S1024x1280 .bf16 :=
  VO4_3.read (Elt F) (VO4_3.writes (Elt F) VO4_3.junk (kernelRun4_A c i arg2 harg2 arg3 harg3 arg4 harg4 arg5 harg5 arg6 harg6 arg7 harg7 hc0 hc1 x0 x1 x2).1)

theorem scover4_A_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) (y : S1280x1024.Idx) :
    ∃ pc ∈ (kernelRun4_A c i arg2 harg2 arg3 harg3 arg4 harg4 arg5 harg5 arg6 harg6 arg7 harg7 hc0 hc1 x0 x1 x2).2.1, y ∈ pc.1.set :=
  View.cover_of_tiledL (kernelRun4_A c i arg2 harg2 arg3 harg3 arg4 harg4 arg5 harg5 arg6 harg6 arg7 harg7 hc0 hc1 x0 x1 x2).2.1 S1280x1024.size (by sl_kernel_rfl) y

def sout4_A_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) : Vec F S1280x1024 .f32 :=
  VS4_1.read (Elt F) (VS4_1.writes (Elt F) VS4_1.junk (kernelRun4_A c i arg2 harg2 arg3 harg3 arg4 harg4 arg5 harg5 arg6 harg6 arg7 harg7 hc0 hc1 x0 x1 x2).2.1)

def out4_B_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) : Vec F S1024x1280 .bf16 :=
  VO4_3.read (Elt F) (VO4_3.writes (Elt F) VO4_3.junk (kernelRun4_B c i arg2 harg2 arg3 harg3 arg4 harg4 arg5 harg5 arg6 harg6 arg7 harg7 hc0 hc1 x0 x1 x2 xs1).1)

theorem scover4_B_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) (y : S1280x1024.Idx) :
    ∃ pc ∈ (kernelRun4_B c i arg2 harg2 arg3 harg3 arg4 harg4 arg5 harg5 arg6 harg6 arg7 harg7 hc0 hc1 x0 x1 x2 xs1).2.1, y ∈ pc.1.set :=
  View.cover_of_tiledL (kernelRun4_B c i arg2 harg2 arg3 harg3 arg4 harg4 arg5 harg5 arg6 harg6 arg7 harg7 hc0 hc1 x0 x1 x2 xs1).2.1 S1280x1024.size (by sl_kernel_rfl) y

def sout4_B_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) : Vec F S1280x1024 .f32 :=
  VS4_1.read (Elt F) (VS4_1.writes (Elt F) VS4_1.junk (kernelRun4_B c i arg2 harg2 arg3 harg3 arg4 harg4 arg5 harg5 arg6 harg6 arg7 harg7 hc0 hc1 x0 x1 x2 xs1).2.1)

theorem cover4_C_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) (y : S1024x1280.Idx) :
    ∃ pc ∈ (kernelRun4_C c i arg2 harg2 arg3 harg3 arg4 harg4 arg5 harg5 arg6 harg6 arg7 harg7 hc0 hc1 x0 x1 x2 xs1).1, y ∈ pc.1.set :=
  View.cover_of_tiledL (kernelRun4_C c i arg2 harg2 arg3 harg3 arg4 harg4 arg5 harg5 arg6 harg6 arg7 harg7 hc0 hc1 x0 x1 x2 xs1).1 S1024x1280.size (by sl_kernel_rfl) y

def out4_C_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) : Vec F S1024x1280 .bf16 :=
  VO4_3.read (Elt F) (VO4_3.writes (Elt F) VO4_3.junk (kernelRun4_C c i arg2 harg2 arg3 harg3 arg4 harg4 arg5 harg5 arg6 harg6 arg7 harg7 hc0 hc1 x0 x1 x2 xs1).1)

theorem scover4_C_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) (y : S1280x1024.Idx) :
    ∃ pc ∈ (kernelRun4_C c i arg2 harg2 arg3 harg3 arg4 harg4 arg5 harg5 arg6 harg6 arg7 harg7 hc0 hc1 x0 x1 x2 xs1).2.1, y ∈ pc.1.set :=
  View.cover_of_tiledL (kernelRun4_C c i arg2 harg2 arg3 harg3 arg4 harg4 arg5 harg5 arg6 harg6 arg7 harg7 hc0 hc1 x0 x1 x2 xs1).2.1 S1280x1024.size (by sl_kernel_rfl) y

def sout4_C_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) : Vec F S1280x1024 .f32 :=
  VS4_1.read (Elt F) (VS4_1.writes (Elt F) VS4_1.junk (kernelRun4_C c i arg2 harg2 arg3 harg3 arg4 harg4 arg5 harg5 arg6 harg6 arg7 harg7 hc0 hc1 x0 x1 x2 xs1).2.1)

def outsAt4 (c : Dev nD) : (n : ℕ) → n < cfg4.N → Vec F S1024x1280 .bf16 × Vec F S1280x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩))
  | n + 1, hn =>
    if h0 : (n + 1) % 6 = 0 then
      if h1 : (n + 1) % 6 = 5 then
        False.elim (by have hN : n + 1 < 30 := lt_of_lt_of_eq hn (show cfg4.N = 30 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩))
    else
      if h1 : (n + 1) % 6 = 5 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2)

theorem outsAt4_A (c : Dev nD) (t : Fin cfg4.N) (h0 : t.val % 6 = 0) (h1 : ¬t.val % 6 = 5) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk V c 0 t) (iblk V c 1 t) (iblk V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 6 = 0) (h1 : ¬t.val % 6 = 5) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 6 = 0) (h1 : t.val % 6 = 5) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg4.N → sProp 𝕄
  | 0, _ => Pipeline.ΦA spec4 c
  | n + 1, hn => iprop(iprop((∃ d, owns (c : Thread nD τ) scM4_0 fullShare d) ∗ owns (c : Thread nD τ) scM4_1 fullShare ((outsAt4 V c n hn).2)) ∗ (Pipeline.scopedRestBut spec4 c [cc4_scratch0, cc4_scratch1] ∗ ∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop((∃ d, owns (c : Thread nD τ) scM4_0 fullShare d) ∗ owns (c : Thread nD τ) scM4_1 fullShare ((outsAt4 V c n hn).2)) ∗ (Pipeline.scopedRestBut spec4 c [cc4_scratch0, cc4_scratch1] ∗ ∃ r, prngReg c r)) := rfl

theorem PhiS_pos (c : Dev nD) (n : ℕ) (h : n ≤ cfg4.N) (hz : n ≠ 0) :
    PhiS V c n h = iprop(iprop((∃ d, owns (c : Thread nD τ) scM4_0 fullShare d) ∗ owns (c : Thread nD τ) scM4_1 fullShare ((outsAt4 V c (n - 1) (by omega)).2)) ∗ (Pipeline.scopedRestBut spec4 c [cc4_scratch0, cc4_scratch1] ∗ ∃ r, prngReg c r)) := by
  cases n with
  | zero => exact absurd rfl hz
  | succ n => rfl

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => (outsAt4 V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; exact Pipeline.Dat.Φ_castSucc (PhiS V c) t

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = (outsAt4 V c t.val t.isLt).1 := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d

def bodyPre (c : Dev nD) (t : Fin cfg4.N) : sProp 𝕄 :=
  iprop((dat V c).Φ t.castSucc ∗ (dat V c).owesAt () t.castSucc
    ∗ (∃ d, owns (c : Thread nD τ) (ms4_0 t) fullShare ((dat V c).before 0 t d))
    ∗ (∃ d, owns (c : Thread nD τ) (ms4_1 t) fullShare ((dat V c).before 1 t d))
    ∗ (∃ d, owns (c : Thread nD τ) (ms4_2 t) fullShare ((dat V c).before 2 t d))
    ∗ (∃ d, owns (c : Thread nD τ) (ms4_3 t) fullShare ((dat V c).before 3 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before4_0, before4_1, before4_2]
  rw [show (dat V c).owesAt () t.succ = (dat V c).owesAt () t.castSucc from rfl]
  rw [show (dat V c).Φ t.succ = PhiS V c (t.val + 1) t.isLt from rfl, PhiS_succ]
  have hN : t.val < 30 := lt_of_lt_of_eq t.isLt (show cfg4.N = 30 from N_4)
  by_cases h0 : t.val % 6 = 0
  · by_cases h1 : t.val % 6 = 5
    · exfalso; omega
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS_castSucc V c t, PhiS_zero V c _ _ hz, PhiA_eq]
        rw [outsAt4_A V c t h0 h1]
        unfold sout4_A_1; (try dsimp only)
        iintro ⟨⟨⟨HS0, HS1⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) (fun h => h1 ((hcond4_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt4_A V c t h0 h1]
        unfold sout4_A_1; (try dsimp only)
        iintro ⟨⟨⟨HS0, HS1⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) (fun h => h1 ((hcond4_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexists _; iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 6 = 5
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [show (dat V c).leavesExact 3 t = owns (c : Thread nD τ) (ms4_3 t) fullShare ((dat V c).after 3 t) from by
      unfold Dat.leavesExact; rw [liveAt4_3_C t (fun h => h0 ((hcond4_0 t).mp h)) ((hcond4_1 t).mpr h1)], after4_3]
      by_cases hz : t.val = 0
      · exfalso; have hN : t.val < 30 := lt_of_lt_of_eq t.isLt (show cfg4.N = 30 from N_4); omega
      · rw [PhiS_castSucc V c t, PhiS_pos V c _ _ hz]
        rw [outsAt4_C V c t h0 h1]
        unfold out4_C_3 sout4_C_1; (try dsimp only)
        iintro ⟨⟨⟨HS0, HS1⟩, Hg⟩, Ho, ⟨%d0, H0⟩, ⟨%d1, H1⟩, ⟨%d2, H2⟩, ⟨%d3, H3⟩⟩
        iapply ((kernelRun4_C c (grid4.coords t) _ _ _ _ _ _ _ _ _ _ _ _ (fun h => h0 ((hcond4_0 t).mp h)) ((hcond4_1 t).mpr h1) (iblk V c 0 t) (iblk V c 1 t) (iblk V c 2 t) _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_C_1 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _ _ _)
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 30 := lt_of_lt_of_eq t.isLt (show cfg4.N = 30 from N_4); omega
      · rw [PhiS_castSucc V c t, PhiS_pos V c _ _ hz]
        rw [outsAt4_B V c t h0 h1]
        unfold sout4_B_1; (try dsimp only)
        iintro ⟨⟨⟨HS0, HS1⟩, Hg⟩, Ho, ⟨%d0, H0⟩, ⟨%d1, H1⟩, ⟨%d2, H2⟩, ⟨%d3, H3⟩⟩
        iapply ((kernelRun4_B c (grid4.coords t) _ _ _ _ _ _ _ _ _ _ _ _ (fun h => h0 ((hcond4_0 t).mp h)) (fun h => h1 ((hcond4_1 t).mp h)) (iblk V c 0 t) (iblk V c 1 t) (iblk V c 2 t) _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_B_1 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem defs₀_row (t : Fin cfg4.N) :
    defs₀ (F := F) .tc cfg4.body (cfg4.bodyArgs t (cfg4.slots t)) = bodyAt4 t := by
  unfold defs₀; rw [Defs.onTc_tc]

theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA_eq]
  iintro ⟨⟨HS0, HS1⟩, Hg⟩
  isplitl [HS0 HS1]
  · isplitl [HS0]
    · iexact HS0
    iexists _; iexact HS1
  iexact Hg

theorem hout (c : Dev nD) : (dat V c).Φ (Fin.last cfg4.N) ⊢ Pipeline.ΦA spec4 c :=
  Phi_out V c _ (by rw [Fin.val_last]; have : cfg4.N = 30 := N_4; omega)

end Cert.Proof.K4

end
-- ==== Proof.Chain.lean ====
/- The whole program as a chain of its items: the cast on the host and the five regions, each entered from what the one
   before it left. `W1` … `W6` are the contents of a core's buffers between items; `run_chain` says that every execution
   ends with every buffer at `W6` and every semaphore counter at zero. -/
module

public import proofs.«01_k».proof.Proof.Gen.KernelIdeal.Regions
public import proofs.«01_k».proof.Proof.K0
public import proofs.«01_k».proof.Proof.K1
public import proofs.«01_k».proof.Proof.K2
public import proofs.«01_k».proof.Proof.K3
public import proofs.«01_k».proof.Proof.K4
public import Idealize.ShloMosaic.Lib.Pipeline.RegionArraysS

@[expose] public section

set_option maxRecDepth 16384

noncomputable section

namespace Cert.Proof.Chain

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between items -/

/-- A valuation of a core's buffers read at the TensorCore's references. -/
abbrev at_ (W : Dev nD → Valuation τ sig (Elt F)) (c : Dev nD) (b : Ref sig .tc) : Buf (Elt F) ((c : Thread nD τ).loc b) :=
  W c (Proc.devRef .tc b)

/-- After the cast on the host. -/
def W1 (c : Dev nD) : Valuation τ sig (Elt F) := V1 m c
/-- After region 0. -/
def W2 (c : Dev nD) : Valuation τ sig (Elt F) := Pipeline.afterRegion (K0.dat (at_ (W1 m)) c) (W1 m c)
/-- After region 1. -/
def W3 (c : Dev nD) : Valuation τ sig (Elt F) := Pipeline.afterRegion (K1.dat (at_ (W2 m)) c) (W2 m c)
/-- After region 2. -/
def W4 (c : Dev nD) : Valuation τ sig (Elt F) := Pipeline.afterRegion (K2.dat (at_ (W3 m)) c) (W3 m c)
/-- After region 3. -/
def W5 (c : Dev nD) : Valuation τ sig (Elt F) := Pipeline.afterRegion (K3.dat (at_ (W4 m)) c) (W4 m c)
/-- After region 4. -/
def W6 (c : Dev nD) : Valuation τ sig (Elt F) := Pipeline.afterRegion (K4.dat (at_ (W5 m)) c) (W5 m c)

/-- The proof data of the five pipelines, each entered from what the region before it left. -/
def pdats : (p : Fin 5) → (c : Dev nD) → Dat τ (Elt F) Unit ℕ (UR sig nD τ) ℕ (cfgs p) c
  | ⟨0, _⟩ => fun c => K0.dat (at_ (W1 m)) c
  | ⟨1, _⟩ => fun c => K1.dat (at_ (W2 m)) c
  | ⟨2, _⟩ => fun c => K2.dat (at_ (W3 m)) c
  | ⟨3, _⟩ => fun c => K3.dat (at_ (W4 m)) c
  | ⟨4, _⟩ => fun c => K4.dat (at_ (W5 m)) c

/-- Every TensorCore semaphore is assigned the one index. -/
def lvL (g : GSem nD τ sig) : Finset Unit := if g.1.2 = .tc then {()} else ∅
/-- At level zero. -/
def lvl (_ : GSem nD τ sig) (_ : Unit) : ℕ := 0

theorem lvL_tc (g : GSem nD τ sig) (h : g.1.2 ≠ .tc) : lvL g = ∅ := if_neg h

theorem cut (p : Fin 5) : Pipeline.LevelCut (pcfgs (F := F)) adm () lvL lvl p (fun _ => 0) (fun _ => 0) where
  hι := fun c w s => by unfold lvL; rw [if_pos rfl]; exact Finset.mem_singleton.mpr rfl
  hιb := fun _ _ _ => Nat.le_refl 0
  hD := fun _ _ _ h => absurd h (Nat.lt_irrefl 0)

/-- What rides beside the buffers between items: what the core owes (nothing) and the generator register. -/
abbrev rest (c : Dev nD) : sProp 𝕄 :=
  iprop((∃ Wd, owes (c : Thread nD τ) (0 : CellTallies nD τ sig Unit) Wd) ∗ (∃ r, prngReg c r) ∗ emp)

/-- Into a region: the buffers `S` split at the region's arrays `A`. -/
theorem enter (c : Dev nD) {A S : Finset (DevRef τ sig)} (hS : A ⊆ S) (W : Valuation τ sig (Elt F)) :
    (iprop(StableHlo.held (c : Thread nD τ) S W ∗ rest c) : sProp 𝕄)
      ⊢ iprop(StableHlo.held (c : Thread nD τ) A W ∗ (∃ r, prngReg c r) ∗ (StableHlo.held (c : Thread nD τ) (S \ A) W ∗ emp)
        ∗ ∃ Wd, owes (c : Thread nD τ) (0 : CellTallies nD τ sig Unit) Wd) := by
  rw [StableHlo.held_sub_split (c : Thread nD τ) hS W]
  iintro ⟨⟨Ha, Hu⟩, HO, HX, HR⟩
  isplitl [Ha]; · iexact Ha
  isplitl [HX]; · iexact HX
  isplitl [Hu HR]
  · isplitl [Hu]; · iexact Hu
    iexact HR
  iexact HO

/-- Out of a region: its arrays at `W'` rejoined with the other buffers, on which `W'` is `W`. -/
theorem leave (c : Dev nD) {A S : Finset (DevRef τ sig)} (hS : A ⊆ S) (W W' : Valuation τ sig (Elt F)) (h : ∀ b ∈ S \ A, W' b = W b) :
    (iprop(StableHlo.held (c : Thread nD τ) A W' ∗ (∃ r, prngReg c r) ∗ (StableHlo.held (c : Thread nD τ) (S \ A) W ∗ emp)
        ∗ ∃ Wd, owes (c : Thread nD τ) (0 : CellTallies nD τ sig Unit) Wd) : sProp 𝕄)
      ⊢ iprop(StableHlo.held (c : Thread nD τ) S W' ∗ rest c) := by
  rw [StableHlo.held_sub_split (c : Thread nD τ) hS W', StableHlo.held_congr (c : Thread nD τ) (S := S \ A) h]
  iintro ⟨Ha, HY, ⟨Hu, HR⟩, HO⟩
  isplitl [Ha Hu]
  · isplitl [Ha]; · iexact Ha
    iexact Hu
  isplitl [HO]; · iexact HO
  isplitl [HY]; · iexact HY
  iexact HR

/-! ## The regions' records -/

set_option backward.isDefEq.respectTransparency.types false in
/-- Region 0. -/
def R0 : RegionSeg (pcfgs (F := F)) adm (pdats m) () defs₀ Variants.none lvL lvl 0 :=
  Pipeline.RegionSeg.ofHeldIn (pcfgs (F := F)) adm (pdats m) () defs₀ Variants.none lvL lvl 0 (fun _ => 0) (Pipeline.ucRefs τ sig)
    (fun c => iprop(∃ r, prngReg c r)) (fun c => iprop(∃ r, prngReg c r)) launch0.toP rfl
    (fun c => (K0.body_obligation (at_ (W1 m)) c).loose) (fun _ _ => rfl) (fun _ => rfl)
    (fun c => ((pdats m) 0 c).share_full fun _ => rfl)
    (fun _ => .rfl) (fun _ => .rfl) (fun _ => 0) (cut 0) (fun _ => iprop(emp)) (W1 m)
    (fun c w => K0.A_eq (at_ (W1 m)) c w)

theorem R0_pre (c : Dev nD) :
    iprop(StableHlo.held (c : Thread nD τ) (Pipeline.ucRefs τ sig) (W1 m c) ∗ rest c) ⊢ (R0 m).pre c := by
  show _ ⊢ iprop(StableHlo.held (c : Thread nD τ) (Pipeline.arrRefs (τ := τ) spec0) (W1 m c) ∗ (∃ r, prngReg c r)
    ∗ (StableHlo.held (c : Thread nD τ) (Pipeline.ucRefs τ sig \ Pipeline.arrRefs (τ := τ) spec0) (W1 m c) ∗ emp)
    ∗ ∃ Wd, owes (c : Thread nD τ) (0 : CellTallies nD τ sig Unit) Wd)
  exact enter c (Pipeline.arrRefs_sub_ucRefs spec0 (by decide)) (W1 m c)

theorem R0_post (c : Dev nD) :
    (R0 m).post c ⊢ iprop(StableHlo.held (c : Thread nD τ) (Pipeline.ucRefs τ sig) (W2 m c) ∗ rest c) := by
  show iprop(StableHlo.held (c : Thread nD τ) (Pipeline.arrRefs (τ := τ) spec0) (W2 m c) ∗ (∃ r, prngReg c r)
    ∗ (StableHlo.held (c : Thread nD τ) (Pipeline.ucRefs τ sig \ Pipeline.arrRefs (τ := τ) spec0) (W1 m c) ∗ emp)
    ∗ ∃ Wd, owes (c : Thread nD τ) (0 : CellTallies nD τ sig Unit) Wd) ⊢ _
  exact leave c (Pipeline.arrRefs_sub_ucRefs spec0 (by decide)) (W1 m c) (W2 m c)
    (Pipeline.afterRegion_off (K0.dat (at_ (W1 m)) c) (W1 m c) (Pipeline.ucRefs τ sig))

set_option backward.isDefEq.respectTransparency.types false in
/-- Region 1. -/
def R1 : RegionSeg (pcfgs (F := F)) adm (pdats m) () defs₀ Variants.none lvL lvl 1 :=
  Pipeline.RegionSeg.ofHeldIn (pcfgs (F := F)) adm (pdats m) () defs₀ Variants.none lvL lvl 1 (fun _ => 0) (Pipeline.ucRefs τ sig)
    (fun c => iprop(∃ r, prngReg c r)) (fun c => iprop(∃ r, prngReg c r)) launch1.toP rfl
    (fun c => (K1.body_obligation (at_ (W2 m)) c).loose) (fun _ _ => rfl) (fun _ => rfl)
    (fun c => ((pdats m) 1 c).share_full fun _ => rfl)
    (fun _ => .rfl) (fun _ => .rfl) (fun _ => 0) (cut 1) (fun _ => iprop(emp)) (W2 m)
    (fun c w => K1.A_eq (at_ (W2 m)) c w)

theorem R1_pre (c : Dev nD) :
    iprop(StableHlo.held (c : Thread nD τ) (Pipeline.ucRefs τ sig) (W2 m c) ∗ rest c) ⊢ (R1 m).pre c := by
  show _ ⊢ iprop(StableHlo.held (c : Thread nD τ) (Pipeline.arrRefs (τ := τ) spec1) (W2 m c) ∗ (∃ r, prngReg c r)
    ∗ (StableHlo.held (c : Thread nD τ) (Pipeline.ucRefs τ sig \ Pipeline.arrRefs (τ := τ) spec1) (W2 m c) ∗ emp)
    ∗ ∃ Wd, owes (c : Thread nD τ) (0 : CellTallies nD τ sig Unit) Wd)
  exact enter c (Pipeline.arrRefs_sub_ucRefs spec1 (by decide)) (W2 m c)

theorem R1_post (c : Dev nD) :
    (R1 m).post c ⊢ iprop(StableHlo.held (c : Thread nD τ) (Pipeline.ucRefs τ sig) (W3 m c) ∗ rest c) := by
  show iprop(StableHlo.held (c : Thread nD τ) (Pipeline.arrRefs (τ := τ) spec1) (W3 m c) ∗ (∃ r, prngReg c r)
    ∗ (StableHlo.held (c : Thread nD τ) (Pipeline.ucRefs τ sig \ Pipeline.arrRefs (τ := τ) spec1) (W2 m c) ∗ emp)
    ∗ ∃ Wd, owes (c : Thread nD τ) (0 : CellTallies nD τ sig Unit) Wd) ⊢ _
  exact leave c (Pipeline.arrRefs_sub_ucRefs spec1 (by decide)) (W2 m c) (W3 m c)
    (Pipeline.afterRegion_off (K1.dat (at_ (W2 m)) c) (W2 m c) (Pipeline.ucRefs τ sig))

set_option backward.isDefEq.respectTransparency.types false in
/-- Region 2. -/
def R2 : RegionSeg (pcfgs (F := F)) adm (pdats m) () defs₀ Variants.none lvL lvl 2 :=
  Pipeline.RegionSeg.ofHeldIn (pcfgs (F := F)) adm (pdats m) () defs₀ Variants.none lvL lvl 2 (fun _ => 0) (Pipeline.ucRefs τ sig)
    (fun c => iprop(∃ r, prngReg c r)) (fun c => iprop(∃ r, prngReg c r)) launch2.toP rfl
    (fun c => (K2.body_obligation (at_ (W3 m)) c).loose) (fun _ _ => rfl) (fun _ => rfl)
    (fun c => ((pdats m) 2 c).share_full fun _ => rfl)
    (fun c => K2.hin (at_ (W3 m)) c) (fun c => K2.hout (at_ (W3 m)) c) (fun _ => 0) (cut 2) (fun _ => iprop(emp)) (W3 m)
    (fun c w => K2.A_eq (at_ (W3 m)) c w)

theorem R2_pre (c : Dev nD) :
    iprop(StableHlo.held (c : Thread nD τ) (Pipeline.ucRefs τ sig) (W3 m c) ∗ rest c) ⊢ (R2 m).pre c := by
  show _ ⊢ iprop(StableHlo.held (c : Thread nD τ) (Pipeline.arrRefs (τ := τ) spec2) (W3 m c) ∗ (∃ r, prngReg c r)
    ∗ (StableHlo.held (c : Thread nD τ) (Pipeline.ucRefs τ sig \ Pipeline.arrRefs (τ := τ) spec2) (W3 m c) ∗ emp)
    ∗ ∃ Wd, owes (c : Thread nD τ) (0 : CellTallies nD τ sig Unit) Wd)
  exact enter c (Pipeline.arrRefs_sub_ucRefs spec2 (by decide)) (W3 m c)

theorem R2_post (c : Dev nD) :
    (R2 m).post c ⊢ iprop(StableHlo.held (c : Thread nD τ) (Pipeline.ucRefs τ sig) (W4 m c) ∗ rest c) := by
  show iprop(StableHlo.held (c : Thread nD τ) (Pipeline.arrRefs (τ := τ) spec2) (W4 m c) ∗ (∃ r, prngReg c r)
    ∗ (StableHlo.held (c : Thread nD τ) (Pipeline.ucRefs τ sig \ Pipeline.arrRefs (τ := τ) spec2) (W3 m c) ∗ emp)
    ∗ ∃ Wd, owes (c : Thread nD τ) (0 : CellTallies nD τ sig Unit) Wd) ⊢ _
  exact leave c (Pipeline.arrRefs_sub_ucRefs spec2 (by decide)) (W3 m c) (W4 m c)
    (Pipeline.afterRegion_off (K2.dat (at_ (W3 m)) c) (W3 m c) (Pipeline.ucRefs τ sig))

set_option backward.isDefEq.respectTransparency.types false in
/-- Region 3. -/
def R3 : RegionSeg (pcfgs (F := F)) adm (pdats m) () defs₀ Variants.none lvL lvl 3 :=
  Pipeline.RegionSeg.ofHeldIn (pcfgs (F := F)) adm (pdats m) () defs₀ Variants.none lvL lvl 3 (fun _ => 0) (Pipeline.ucRefs τ sig)
    (fun c => iprop(∃ r, prngReg c r)) (fun c => iprop(∃ r, prngReg c r)) launch3.toP rfl
    (fun c => (K3.body_obligation (at_ (W4 m)) c).loose) (fun _ _ => rfl) (fun _ => rfl)
    (fun c => ((pdats m) 3 c).share_full fun _ => rfl)
    (fun _ => .rfl) (fun _ => .rfl) (fun _ => 0) (cut 3) (fun _ => iprop(emp)) (W4 m)
    (fun c w => K3.A_eq (at_ (W4 m)) c w)

theorem R3_pre (c : Dev nD) :
    iprop(StableHlo.held (c : Thread nD τ) (Pipeline.ucRefs τ sig) (W4 m c) ∗ rest c) ⊢ (R3 m).pre c := by
  show _ ⊢ iprop(StableHlo.held (c : Thread nD τ) (Pipeline.arrRefs (τ := τ) spec3) (W4 m c) ∗ (∃ r, prngReg c r)
    ∗ (StableHlo.held (c : Thread nD τ) (Pipeline.ucRefs τ sig \ Pipeline.arrRefs (τ := τ) spec3) (W4 m c) ∗ emp)
    ∗ ∃ Wd, owes (c : Thread nD τ) (0 : CellTallies nD τ sig Unit) Wd)
  exact enter c (Pipeline.arrRefs_sub_ucRefs spec3 (by decide)) (W4 m c)

theorem R3_post (c : Dev nD) :
    (R3 m).post c ⊢ iprop(StableHlo.held (c : Thread nD τ) (Pipeline.ucRefs τ sig) (W5 m c) ∗ rest c) := by
  show iprop(StableHlo.held (c : Thread nD τ) (Pipeline.arrRefs (τ := τ) spec3) (W5 m c) ∗ (∃ r, prngReg c r)
    ∗ (StableHlo.held (c : Thread nD τ) (Pipeline.ucRefs τ sig \ Pipeline.arrRefs (τ := τ) spec3) (W4 m c) ∗ emp)
    ∗ ∃ Wd, owes (c : Thread nD τ) (0 : CellTallies nD τ sig Unit) Wd) ⊢ _
  exact leave c (Pipeline.arrRefs_sub_ucRefs spec3 (by decide)) (W4 m c) (W5 m c)
    (Pipeline.afterRegion_off (K3.dat (at_ (W4 m)) c) (W4 m c) (Pipeline.ucRefs τ sig))

set_option backward.isDefEq.respectTransparency.types false in
/-- Region 4. -/
def R4 : RegionSeg (pcfgs (F := F)) adm (pdats m) () defs₀ Variants.none lvL lvl 4 :=
  Pipeline.RegionSeg.ofHeldIn (pcfgs (F := F)) adm (pdats m) () defs₀ Variants.none lvL lvl 4 (fun _ => 0) (Pipeline.ucRefs τ sig)
    (fun c => iprop(∃ r, prngReg c r)) (fun c => iprop(∃ r, prngReg c r)) launch4.toP rfl
    (fun c => (K4.body_obligation (at_ (W5 m)) c).loose) (fun _ _ => rfl) (fun _ => rfl)
    (fun c => ((pdats m) 4 c).share_full fun _ => rfl)
    (fun c => K4.hin (at_ (W5 m)) c) (fun c => K4.hout (at_ (W5 m)) c) (fun _ => 0) (cut 4) (fun _ => iprop(emp)) (W5 m)
    (fun c w => K4.A_eq (at_ (W5 m)) c w)

theorem R4_pre (c : Dev nD) :
    iprop(StableHlo.held (c : Thread nD τ) (Pipeline.ucRefs τ sig) (W5 m c) ∗ rest c) ⊢ (R4 m).pre c := by
  show _ ⊢ iprop(StableHlo.held (c : Thread nD τ) (Pipeline.arrRefs (τ := τ) spec4) (W5 m c) ∗ (∃ r, prngReg c r)
    ∗ (StableHlo.held (c : Thread nD τ) (Pipeline.ucRefs τ sig \ Pipeline.arrRefs (τ := τ) spec4) (W5 m c) ∗ emp)
    ∗ ∃ Wd, owes (c : Thread nD τ) (0 : CellTallies nD τ sig Unit) Wd)
  exact enter c (Pipeline.arrRefs_sub_ucRefs spec4 (by decide)) (W5 m c)

theorem R4_post (c : Dev nD) :
    (R4 m).post c ⊢ iprop(StableHlo.held (c : Thread nD τ) (Pipeline.ucRefs τ sig) (W6 m c) ∗ rest c) := by
  show iprop(StableHlo.held (c : Thread nD τ) (Pipeline.arrRefs (τ := τ) spec4) (W6 m c) ∗ (∃ r, prngReg c r)
    ∗ (StableHlo.held (c : Thread nD τ) (Pipeline.ucRefs τ sig \ Pipeline.arrRefs (τ := τ) spec4) (W5 m c) ∗ emp)
    ∗ ∃ Wd, owes (c : Thread nD τ) (0 : CellTallies nD τ sig Unit) Wd) ⊢ _
  exact leave c (Pipeline.arrRefs_sub_ucRefs spec4 (by decide)) (W5 m c) (W6 m c)
    (Pipeline.afterRegion_off (K4.dat (at_ (W5 m)) c) (W5 m c) (Pipeline.ucRefs τ sig))

/-! ## The run -/

set_option backward.isDefEq.respectTransparency.types false in
/-- Every execution of the program ends, with every unscoped buffer at `W6` and every semaphore counter at zero. -/
theorem run_chain : θ_run defs (onTc (τ := τ) (main (F := F))) ⟨m, fun _ => 0, ρ⟩ (fun r =>
    (∀ (c : Dev nD), ∀ b ∈ Pipeline.ucRefs τ sig, r.2.mem ((c : Thread nD τ).1, b) = W6 m c b) ∧ r.2.sem = fun _ => 0) := by
  refine Pipeline.θ_run_regions_kit_dev_sems (pcfgs (F := F)) adm (pdats m) () cellOf_inj emb₁ defs₀ Variants.none lvL lvl m ρ main
    (segs m Variants.none lvL lvl (fun _ => rest) () (pdats m) (R0 m) (R1 m) (R2 m) (R3 m) (R4 m))
    (fun c Q => by
      rewrite [main_chain c, Seg.run_eq_chain,
        show (segs m Variants.none lvL lvl (fun _ => rest) () (pdats m) (R0 m) (R1 m) (R2 m) (R3 m) (R4 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [segs, Seg.pipes_host, Seg.pipes_region, Seg.pipes_nil]; decide) 0 lvL_tc
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W6 m c))
    (hch := fun c => ⟨.rfl, R0_pre m c, (R0_post m c).trans (R1_pre m c), (R1_post m c).trans (R2_pre m c),
      (R2_post m c).trans (R3_pre m c), (R3_post m c).trans (R4_pre m c), (R4_post m c).trans (sep_mono .rfl (by
        iintro ⟨HO, -, -⟩; iexact HO))⟩)
    (hinit := by
      refine Pipeline.initEach lvL lvl fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c : Thread nD τ).1, b) = W6 m c b)
    (hfin := fun c s' => by
      unfold StableHlo.held
      iintro ⟨Hh, HSI⟩
      ihave Hr := (pointsTo_read_all (Pipeline.ucRefs τ sig) (fun b => ((c : Thread nD τ).1, b)) (W6 m c) s') $$ [Hh HSI]
      · isplitl [Hh] <;> iassumption
      imodintro; iexact Hr)
    (hQ := fun _ h hz => ⟨h, funext fun g => hz g (.inr (regions_no_unscoped g.2))⟩)

/-! ## What each region keeps and leaves -/

/-- The cast writes its own result alone. -/
theorem W1_of (c : Dev nD) (r : Ref sig .tc) (h : r ∉ hostOps0_W) : W1 m c (Proc.devRef .tc r) = m ((c : Thread nD τ).loc r) :=
  V1_of m c r h
/-- Region 0 leaves in window `w`'s array what its pipeline computes. -/
theorem W2_arr (c : Dev nD) (w : Fin cfg0.W) :
    W2 m c (Proc.devRef .tc (Pipeline.arrRef spec0 w)) = (K0.dat (at_ (W1 m)) c).arrAt w cfg0.N :=
  Pipeline.afterRegion_arr (K0.dat (at_ (W1 m)) c) (W1 m c) launch0.win.arr_inj w
/-- Region 0 keeps every buffer that is no output window's array. -/
theorem W2_of (c : Dev nD) (r : Ref sig .tc) (h : ∀ w, Pipeline.arrRef spec0 w = r → (cfg0.win w).isOut = false) :
    W2 m c (Proc.devRef .tc r) = W1 m c (Proc.devRef .tc r) :=
  Pipeline.afterRegion_keeps (K0.dat (at_ (W1 m)) c) (W1 m c) launch0.win.arr_inj (K0.A_eq (at_ (W1 m)) c) r h
/-- Region 1 leaves in window `w`'s array what its pipeline computes. -/
theorem W3_arr (c : Dev nD) (w : Fin cfg1.W) :
    W3 m c (Proc.devRef .tc (Pipeline.arrRef spec1 w)) = (K1.dat (at_ (W2 m)) c).arrAt w cfg1.N :=
  Pipeline.afterRegion_arr (K1.dat (at_ (W2 m)) c) (W2 m c) launch1.win.arr_inj w
/-- Region 1 keeps every buffer that is no output window's array. -/
theorem W3_of (c : Dev nD) (r : Ref sig .tc) (h : ∀ w, Pipeline.arrRef spec1 w = r → (cfg1.win w).isOut = false) :
    W3 m c (Proc.devRef .tc r) = W2 m c (Proc.devRef .tc r) :=
  Pipeline.afterRegion_keeps (K1.dat (at_ (W2 m)) c) (W2 m c) launch1.win.arr_inj (K1.A_eq (at_ (W2 m)) c) r h
/-- Region 2 leaves in window `w`'s array what its pipeline computes. -/
theorem W4_arr (c : Dev nD) (w : Fin cfg2.W) :
    W4 m c (Proc.devRef .tc (Pipeline.arrRef spec2 w)) = (K2.dat (at_ (W3 m)) c).arrAt w cfg2.N :=
  Pipeline.afterRegion_arr (K2.dat (at_ (W3 m)) c) (W3 m c) launch2.win.arr_inj w
/-- Region 2 keeps every buffer that is no output window's array. -/
theorem W4_of (c : Dev nD) (r : Ref sig .tc) (h : ∀ w, Pipeline.arrRef spec2 w = r → (cfg2.win w).isOut = false) :
    W4 m c (Proc.devRef .tc r) = W3 m c (Proc.devRef .tc r) :=
  Pipeline.afterRegion_keeps (K2.dat (at_ (W3 m)) c) (W3 m c) launch2.win.arr_inj (K2.A_eq (at_ (W3 m)) c) r h
/-- Region 3 leaves in window `w`'s array what its pipeline computes. -/
theorem W5_arr (c : Dev nD) (w : Fin cfg3.W) :
    W5 m c (Proc.devRef .tc (Pipeline.arrRef spec3 w)) = (K3.dat (at_ (W4 m)) c).arrAt w cfg3.N :=
  Pipeline.afterRegion_arr (K3.dat (at_ (W4 m)) c) (W4 m c) launch3.win.arr_inj w
/-- Region 3 keeps every buffer that is no output window's array. -/
theorem W5_of (c : Dev nD) (r : Ref sig .tc) (h : ∀ w, Pipeline.arrRef spec3 w = r → (cfg3.win w).isOut = false) :
    W5 m c (Proc.devRef .tc r) = W4 m c (Proc.devRef .tc r) :=
  Pipeline.afterRegion_keeps (K3.dat (at_ (W4 m)) c) (W4 m c) launch3.win.arr_inj (K3.A_eq (at_ (W4 m)) c) r h
/-- Region 4 leaves in window `w`'s array what its pipeline computes. -/
theorem W6_arr (c : Dev nD) (w : Fin cfg4.W) :
    W6 m c (Proc.devRef .tc (Pipeline.arrRef spec4 w)) = (K4.dat (at_ (W5 m)) c).arrAt w cfg4.N :=
  Pipeline.afterRegion_arr (K4.dat (at_ (W5 m)) c) (W5 m c) launch4.win.arr_inj w
/-- Region 4 keeps every buffer that is no output window's array. -/
theorem W6_of (c : Dev nD) (r : Ref sig .tc) (h : ∀ w, Pipeline.arrRef spec4 w = r → (cfg4.win w).isOut = false) :
    W6 m c (Proc.devRef .tc r) = W5 m c (Proc.devRef .tc r) :=
  Pipeline.afterRegion_keeps (K4.dat (at_ (W5 m)) c) (W5 m c) launch4.win.arr_inj (K4.A_eq (at_ (W5 m)) c) r h

/-- An argument array, which no item writes, ends as launched. -/
theorem W6_arg (c : Dev nD) (r : Ref sig .tc) (h : r ∉ hostOps0_W)
    (h0 : ∀ w, Pipeline.arrRef spec0 w = r → (cfg0.win w).isOut = false)
    (h1 : ∀ w, Pipeline.arrRef spec1 w = r → (cfg1.win w).isOut = false)
    (h2 : ∀ w, Pipeline.arrRef spec2 w = r → (cfg2.win w).isOut = false)
    (h3 : ∀ w, Pipeline.arrRef spec3 w = r → (cfg3.win w).isOut = false)
    (h4 : ∀ w, Pipeline.arrRef spec4 w = r → (cfg4.win w).isOut = false)
    : W6 m c (Proc.devRef .tc r) = m ((c : Thread nD τ).loc r) :=
  (W6_of m c r h4).trans ((W5_of m c r h3).trans ((W4_of m c r h2).trans ((W3_of m c r h1).trans ((W2_of m c r h0).trans (W1_of m c r h)))))

/-- Every execution ends with each argument array as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (W6_arg m c main_arg0 (by decide) (by decide) (by decide) (by decide) (by decide) (by decide)),
      (h.1 c (Proc.devRef .tc main_arg1) (Finset.mem_filter.mpr ⟨StableHlo.devRef_mem_tcRefs main_arg1, by decide⟩)).trans (W6_arg m c main_arg1 (by decide) (by decide) (by decide) (by decide) (by decide) (by decide)),
      (h.1 c (Proc.devRef .tc main_arg2) (Finset.mem_filter.mpr ⟨StableHlo.devRef_mem_tcRefs main_arg2, by decide⟩)).trans (W6_arg m c main_arg2 (by decide) (by decide) (by decide) (by decide) (by decide) (by decide)),
      (h.1 c (Proc.devRef .tc main_arg3) (Finset.mem_filter.mpr ⟨StableHlo.devRef_mem_tcRefs main_arg3, by decide⟩)).trans (W6_arg m c main_arg3 (by decide) (by decide) (by decide) (by decide) (by decide) (by decide)),
      (h.1 c (Proc.devRef .tc main_arg4) (Finset.mem_filter.mpr ⟨StableHlo.devRef_mem_tcRefs main_arg4, by decide⟩)).trans (W6_arg m c main_arg4 (by decide) (by decide) (by decide) (by decide) (by decide) (by decide)),
      (h.1 c (Proc.devRef .tc main_arg5) (Finset.mem_filter.mpr ⟨StableHlo.devRef_mem_tcRefs main_arg5, by decide⟩)).trans (W6_arg m c main_arg5 (by decide) (by decide) (by decide) (by decide) (by decide) (by decide)),
      (h.1 c (Proc.devRef .tc main_arg6) (Finset.mem_filter.mpr ⟨StableHlo.devRef_mem_tcRefs main_arg6, by decide⟩)).trans (W6_arg m c main_arg6 (by decide) (by decide) (by decide) (by decide) (by decide) (by decide)),
      (h.1 c (Proc.devRef .tc main_arg7) (Finset.mem_filter.mpr ⟨StableHlo.devRef_mem_tcRefs main_arg7, by decide⟩)).trans (W6_arg m c main_arg7 (by decide) (by decide) (by decide) (by decide) (by decide) (by decide)),
      (h.1 c (Proc.devRef .tc main_arg8) (Finset.mem_filter.mpr ⟨StableHlo.devRef_mem_tcRefs main_arg8, by decide⟩)).trans (W6_arg m c main_arg8 (by decide) (by decide) (by decide) (by decide) (by decide) (by decide)),
      (h.1 c (Proc.devRef .tc main_arg9) (Finset.mem_filter.mpr ⟨StableHlo.devRef_mem_tcRefs main_arg9, by decide⟩)).trans (W6_arg m c main_arg9 (by decide) (by decide) (by decide) (by decide) (by decide) (by decide))⟩, h.2⟩) (run_chain m ρ)

/-- Every execution ends with the four results at `W6` and each argument array as launched. -/
theorem run_results : θ_run defs (onTc (τ := τ) (main (F := F))) ⟨m, fun _ => 0, ρ⟩ (fun r => ∀ c : Dev nD,
      r.2.mem ((c.tc : Thread nD τ).loc main_v3) = W6 m c (Proc.devRef .tc main_v3)
      ∧ r.2.mem ((c.tc : Thread nD τ).loc main_v5) = W6 m c (Proc.devRef .tc main_v5)
      ∧ r.2.mem ((c.tc : Thread nD τ).loc main_v4) = W6 m c (Proc.devRef .tc main_v4)
      ∧ r.2.mem ((c.tc : Thread nD τ).loc main_v2_0) = W6 m c (Proc.devRef .tc main_v2_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h.1 c (Proc.devRef .tc main_v3) (Finset.mem_filter.mpr ⟨StableHlo.devRef_mem_tcRefs main_v3, by decide⟩),
      h.1 c (Proc.devRef .tc main_v5) (Finset.mem_filter.mpr ⟨StableHlo.devRef_mem_tcRefs main_v5, by decide⟩),
      h.1 c (Proc.devRef .tc main_v4) (Finset.mem_filter.mpr ⟨StableHlo.devRef_mem_tcRefs main_v4, by decide⟩),
      h.1 c (Proc.devRef .tc main_v2_0) (Finset.mem_filter.mpr ⟨StableHlo.devRef_mem_tcRefs main_v2_0, by decide⟩),
      (h.1 c (Proc.devRef .tc main_arg0) (Finset.mem_filter.mpr ⟨StableHlo.devRef_mem_tcRefs main_arg0, by decide⟩)).trans (W6_arg m c main_arg0 (by decide) (by decide) (by decide) (by decide) (by decide) (by decide)),
      (h.1 c (Proc.devRef .tc main_arg1) (Finset.mem_filter.mpr ⟨StableHlo.devRef_mem_tcRefs main_arg1, by decide⟩)).trans (W6_arg m c main_arg1 (by decide) (by decide) (by decide) (by decide) (by decide) (by decide)),
      (h.1 c (Proc.devRef .tc main_arg2) (Finset.mem_filter.mpr ⟨StableHlo.devRef_mem_tcRefs main_arg2, by decide⟩)).trans (W6_arg m c main_arg2 (by decide) (by decide) (by decide) (by decide) (by decide) (by decide)),
      (h.1 c (Proc.devRef .tc main_arg3) (Finset.mem_filter.mpr ⟨StableHlo.devRef_mem_tcRefs main_arg3, by decide⟩)).trans (W6_arg m c main_arg3 (by decide) (by decide) (by decide) (by decide) (by decide) (by decide)),
      (h.1 c (Proc.devRef .tc main_arg4) (Finset.mem_filter.mpr ⟨StableHlo.devRef_mem_tcRefs main_arg4, by decide⟩)).trans (W6_arg m c main_arg4 (by decide) (by decide) (by decide) (by decide) (by decide) (by decide)),
      (h.1 c (Proc.devRef .tc main_arg5) (Finset.mem_filter.mpr ⟨StableHlo.devRef_mem_tcRefs main_arg5, by decide⟩)).trans (W6_arg m c main_arg5 (by decide) (by decide) (by decide) (by decide) (by decide) (by decide)),
      (h.1 c (Proc.devRef .tc main_arg6) (Finset.mem_filter.mpr ⟨StableHlo.devRef_mem_tcRefs main_arg6, by decide⟩)).trans (W6_arg m c main_arg6 (by decide) (by decide) (by decide) (by decide) (by decide) (by decide)),
      (h.1 c (Proc.devRef .tc main_arg7) (Finset.mem_filter.mpr ⟨StableHlo.devRef_mem_tcRefs main_arg7, by decide⟩)).trans (W6_arg m c main_arg7 (by decide) (by decide) (by decide) (by decide) (by decide) (by decide)),
      (h.1 c (Proc.devRef .tc main_arg8) (Finset.mem_filter.mpr ⟨StableHlo.devRef_mem_tcRefs main_arg8, by decide⟩)).trans (W6_arg m c main_arg8 (by decide) (by decide) (by decide) (by decide) (by decide) (by decide)),
      (h.1 c (Proc.devRef .tc main_arg9) (Finset.mem_filter.mpr ⟨StableHlo.devRef_mem_tcRefs main_arg9, by decide⟩)).trans (W6_arg m c main_arg9 (by decide) (by decide) (by decide) (by decide) (by decide) (by decide))⟩) (run_chain m ρ)

end Cert.Proof.Chain

end
-- ==== Proof.B0.lean ====
/- One region of the program: the statistics kernel. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.B0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 6 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 6 = 0)

abbrev VO0_6 : View sig .tc .vmem S1x512x1280 .f32 := (Memref.whole cc0_stg6_0 : Memref sig .tc .vmem S1x512x1280 .f32).view
abbrev VO0_7 : View sig .tc .vmem S1x512x1280 .f32 := (Memref.whole cc0_stg7_0 : Memref sig .tc .vmem S1x512x1280 .f32).view
abbrev VO0_8 : View sig .tc .vmem S1x8x1280 .f32 := (Memref.whole cc0_stg8_0 : Memref sig .tc .vmem S1x8x1280 .f32).view
abbrev ms0_0 (t : Fin cfg0.N) : Memref sig .tc .vmem S1x512x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280x5120 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1280 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x1280 .f32 := win0_8.stage (cfg0.slots t 8)
abbrev hs0_8 (t : Fin cfg0.N) : (ms0_8 t).IsWhole := hstage0_8 ((cfg0.slots t 8).cast nbuf0_8)

set_option maxHeartbeats 1000000 in
noncomputable def kernelRun0_A (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) :
    Σ' (L6 : List (View.Piece (Elt F) S1x512x1280 .f32)), Σ' (L7 : List (View.Piece (Elt F) S1x512x1280 .f32)), { L8 : List (View.Piece (Elt F) S1x8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10) K } := by
  refine ⟨?_, ?_, ?_, fun E K => ?run⟩
  case run =>
    simp only [cc0_stats_eq_skeleton]; unfold cc0_stats_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

set_option maxHeartbeats 1000000 in
noncomputable def kernelRun0_B (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) :
    Σ' (L6 : List (View.Piece (Elt F) S1x512x1280 .f32)), Σ' (L7 : List (View.Piece (Elt F) S1x512x1280 .f32)), { L8 : List (View.Piece (Elt F) S1x8x1280 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xo8) L8)) -∗ K ⟨⟩))
          ⊢ wp frame (wpE (defs₀ (F := F)) Variants.none c none) E (cc0_stats i arg2 harg2 arg3 harg3 arg4 harg4 arg5 harg5 arg6 harg6 arg7 harg7 arg8 harg8 arg9 harg9 arg10 harg10) K } := by
  refine ⟨?_, ?_, ?_, fun E K => ?run⟩
  case run =>
    simp only [cc0_stats_eq_skeleton]; unfold cc0_stats_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexact H8

theorem cover0_A_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x512x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S1x512x1280.size (by sl_kernel_rfl) y

def out0_A_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x512x1280 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x512x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1x512x1280.size (by sl_kernel_rfl) y

def out0_A_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x512x1280 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem cover0_A_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (y : S1x8x1280.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledBy (kernelRun0_A c i arg2 harg2 arg3 harg3 arg4 harg4 arg5 harg5 arg6 harg6 arg7 harg7 arg8 harg8 arg9 harg9 arg10 harg10 hc0 x0 x1 x2 x3 x4 x5).2.2.1 ![1, 1, 1280] (by sl_kernel_rfl) y

def out0_A_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) : Vec F S1x8x1280 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5).2.2.1)

theorem cover0_B_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) (y : S1x512x1280.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo8).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo8).1 S1x512x1280.size (by sl_kernel_rfl) y

def out0_B_6 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x512x1280 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo8).1)

theorem cover0_B_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) (y : S1x512x1280.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo8).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo8).2.1 S1x512x1280.size (by sl_kernel_rfl) y

def out0_B_7 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x512x1280 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xo8).2.1)

def out0_B_8 (c : Dev nD) (i : grid0.Coords) (arg2 : Memref sig .tc .vmem S1x512x5120 .fp8e4m3) (harg2 : arg2.IsWhole) (arg3 : Memref sig .tc .vmem S5120x1280 .fp8e4m3) (harg3 : arg3.IsWhole) (arg4 : Memref sig .tc .vmem S1x1280x5120 .fp8e5m2) (harg4 : arg4.IsWhole) (arg5 : Memref sig .tc .vmem S6x3072 .f32) (harg5 : arg5.IsWhole) (arg6 : Memref sig .tc .vmem S1x1280 .f32) (harg6 : arg6.IsWhole) (arg7 : Memref sig .tc .vmem S6x1280 .f32) (harg7 : arg7.IsWhole) (arg8 : Memref sig .tc .vmem S1x512x1280 .f32) (harg8 : arg8.IsWhole) (arg9 : Memref sig .tc .vmem S1x512x1280 .f32) (harg9 : arg9.IsWhole) (arg10 : Memref sig .tc .vmem S1x8x1280 .f32) (harg10 : arg10.IsWhole) (hc0 : ¬cond0_0 i)
    (x0 : Vec F S1x512x5120 .fp8e4m3) (x1 : Vec F S5120x1280 .fp8e4m3) (x2 : Vec F S1x1280x5120 .fp8e5m2) (x3 : Vec F S6x3072 .f32) (x4 : Vec F S1x1280 .f32) (x5 : Vec F S6x1280 .f32) (xo8 : Vec F S1x8x1280 .f32) : Vec F S1x8x1280 .f32 :=
  arg10.view.read (Elt F) (arg10.view.writes (Elt F) (harg10.unread xo8) (kernelRun0_B c i arg2 harg2 arg3 harg3 arg4 harg4 arg5 harg5 arg6 harg6 arg7 harg7 arg8 harg8 arg9 harg9 arg10 harg10 hc0 x0 x1 x2 x3 x4 x5 xo8).2.2.1)

def outsAt0 (c : Dev nD) : (n : ℕ) → n < cfg0.N → Vec F S1x512x1280 .f32 × Vec F S1x512x1280 .f32 × Vec F S1x8x1280 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 6 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

theorem outsAt0_A (c : Dev nD) (t : Fin cfg0.N) (h0 : t.val % 6 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 6 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq (c : Dev nD) (w : Fin cfg0.W) : (dat V c).A w = V c (Pipeline.arrRef spec0 w) := by
  dsimp only [dat]

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]
theorem after0_8 (c : Dev nD) (t : Fin cfg0.N) : (dat V c).after 8 t = (outsAt0 V c t.val t.isLt).2.2 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d
theorem before0_8_B (c : Dev nD) (t : Fin cfg0.N) (h0 : ¬t.val % 6 = 0) (d) :
    (dat V c).before 8 t d = (outsAt0 V c (t.val - 1) (Nat.lt_of_le_of_lt (Nat.sub_le _ _) t.isLt)).2.2 := by
  have hN : t.val < 36 := lt_of_lt_of_eq t.isLt (show cfg0.N = 36 from N_0)
  rw [Dat.before_out_kept _ 8 rfl t (by omega) (Bool.eq_false_iff.mpr fun h => by have := (flush0_8 _).mp h; dsimp only at this; omega)
    (fun _ => rfl) (fun _ _ => rfl)]
  dsimp only [dat]

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d)))

def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).Φ t.succ = (dat V c).Φ t.castSucc from rfl,
    show (dat V c).owesAt () t.succ = (dat V c).owesAt () t.castSucc from rfl,
    after0_0, after0_1, after0_2, after0_3, after0_4, after0_5, after0_6, after0_7, after0_8]
  have hN : t.val < 36 := lt_of_lt_of_eq t.isLt (show cfg0.N = 36 from N_0)
  by_cases h0 : t.val % 6 = 0
  · rw [outsAt0_A V c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_8_B V c t h0]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, ⟨%e6, H6⟩, ⟨%e7, H7⟩, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _)
    unfold owns; iexists _; isplitr
    swap; · iexact H8
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Proof.B0

end
-- ==== Proof.B1.lean ====
/- One region of the program: the gradient kernel. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.B1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev VO1_8 : View sig .tc .vmem S1x512x1280 .f32 := (Memref.whole cc1_stg8_0 : Memref sig .tc .vmem S1x512x1280 .f32).view
abbrev VO1_9 : View sig .tc .vmem S1x512x1280 .bf16 := (Memref.whole cc1_stg9_0 : Memref sig .tc .vmem S1x512x1280 .bf16).view
abbrev VO1_10 : View sig .tc .vmem S1x1280x512 .bf16 := (Memref.whole cc1_stg10_0 : Memref sig .tc .vmem S1x1280x512 .bf16).view
abbrev VO1_11 : View sig .tc .vmem S1x512x1280 .bf16 := (Memref.whole cc1_stg11_0 : Memref sig .tc .vmem S1x512x1280 .bf16).view
abbrev VO1_12 : View sig .tc .vmem S1x1280x512 .bf16 := (Memref.whole cc1_stg12_0 : Memref sig .tc .vmem S1x1280x512 .bf16).view
abbrev ms1_0 (t : Fin cfg1.N) : Memref sig .tc .vmem S1x512x5120 .fp8e5m2 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1280x5120 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1280 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x1280 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S6x3072 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S6x1280 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S6x1280 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1280 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512x1280 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1280x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512x1280 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1280x512 .bf16 := win1_12.stage (cfg1.slots t 12)
abbrev hs1_12 (t : Fin cfg1.N) : (ms1_12 t).IsWhole := hstage1_12 ((cfg1.slots t 12).cast nbuf1_12)

set_option maxHeartbeats 1000000 in
noncomputable def kernelRun1_A (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) :
    Σ' (L8 : List (View.Piece (Elt F) S1x512x1280 .f32)), Σ' (L9 : List (View.Piece (Elt F) S1x512x1280 .bf16)), Σ' (L10 : List (View.Piece (Elt F) S1x1280x512 .bf16)), Σ' (L11 : List (View.Piece (Elt F) S1x512x1280 .bf16)), { L12 : List (View.Piece (Elt F) S1x1280x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc1_grad i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_grad_eq_skeleton]; unfold cc1_grad_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

theorem cover1_A_8 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 S1x512x1280.size (by sl_kernel_rfl) y

def out1_A_8 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1)

theorem cover1_A_9 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 S1x512x1280.size (by sl_kernel_rfl) y

def out1_A_9 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .bf16 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1)

theorem cover1_A_10 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x1280x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 S1x1280x512.size (by sl_kernel_rfl) y

def out1_A_10 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x1280x512 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1)

theorem cover1_A_11 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x512x1280.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1 S1x512x1280.size (by sl_kernel_rfl) y

def out1_A_11 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x512x1280 .bf16 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1)

theorem cover1_A_12 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) (y : S1x1280x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1 S1x1280x512.size (by sl_kernel_rfl) y

def out1_A_12 (c : Dev nD) (i : grid1.Coords) (arg2 : Memref sig .tc .vmem S1x512x5120 .fp8e5m2) (harg2 : arg2.IsWhole) (arg3 : Memref sig .tc .vmem S1x1280x5120 .fp8e4m3) (harg3 : arg3.IsWhole) (arg4 : Memref sig .tc .vmem S1x512x1280 .f32) (harg4 : arg4.IsWhole) (arg5 : Memref sig .tc .vmem S1x512x1280 .f32) (harg5 : arg5.IsWhole) (arg6 : Memref sig .tc .vmem S1x8x1280 .f32) (harg6 : arg6.IsWhole) (arg7 : Memref sig .tc .vmem S6x3072 .f32) (harg7 : arg7.IsWhole) (arg8 : Memref sig .tc .vmem S6x1280 .f32) (harg8 : arg8.IsWhole) (arg9 : Memref sig .tc .vmem S6x1280 .f32) (harg9 : arg9.IsWhole) (arg10 : Memref sig .tc .vmem S1x512x1280 .f32) (harg10 : arg10.IsWhole) (arg11 : Memref sig .tc .vmem S1x512x1280 .bf16) (harg11 : arg11.IsWhole) (arg12 : Memref sig .tc .vmem S1x1280x512 .bf16) (harg12 : arg12.IsWhole) (arg13 : Memref sig .tc .vmem S1x512x1280 .bf16) (harg13 : arg13.IsWhole) (arg14 : Memref sig .tc .vmem S1x1280x512 .bf16) (harg14 : arg14.IsWhole)
    (x0 : Vec F S1x512x5120 .fp8e5m2) (x1 : Vec F S1x1280x5120 .fp8e4m3) (x2 : Vec F S1x512x1280 .f32) (x3 : Vec F S1x512x1280 .f32) (x4 : Vec F S1x8x1280 .f32) (x5 : Vec F S6x3072 .f32) (x6 : Vec F S6x1280 .f32) (x7 : Vec F S6x1280 .f32) : Vec F S1x1280x512 .bf16 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1)

def outsAt1 (c : Dev nD) (t : Fin cfg1.N) : Vec F S1x512x1280 .f32 × Vec F S1x512x1280 .bf16 × Vec F S1x1280x512 .bf16 × Vec F S1x512x1280 .bf16 × Vec F S1x1280x512 .bf16 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (iblk V c 0 t) (iblk V c 1 t) (iblk V c 2 t) (iblk V c 3 t) (iblk V c 4 t) (iblk V c 5 t) (iblk V c 6 t) (iblk V c 7 t))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t).1
    | ⟨9, _⟩ => (outsAt1 V c t).2.1
    | ⟨10, _⟩ => (outsAt1 V c t).2.2.1
    | ⟨11, _⟩ => (outsAt1 V c t).2.2.2.1
    | ⟨12, _⟩ => (outsAt1 V c t).2.2.2.2
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t).1 := by dsimp only [dat]
theorem after1_9 (c : Dev nD) (t : Fin cfg1.N) : (dat V c).after 9 t = (outsAt1 V c t).2.1 := by dsimp only [dat]
theorem after1_10 (c : Dev nD) (t : Fin cfg1.N) : (dat V c).after 10 t = (outsAt1 V c t).2.2.1 := by dsimp only [dat]
theorem after1_11 (c : Dev nD) (t : Fin cfg1.N) : (dat V c).after 11 t = (outsAt1 V c t).2.2.2.1 := by dsimp only [dat]
theorem after1_12 (c : Dev nD) (t : Fin cfg1.N) : (dat V c).after 12 t = (outsAt1 V c t).2.2.2.2 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d)))

def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t)
    ∗ owns (c : Thread nD τ) (ms1_11 t) fullShare ((dat V c).after 11 t)
    ∗ owns (c : Thread nD τ) (ms1_12 t) fullShare ((dat V c).after 12 t))

set_option maxHeartbeats 1200000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).Φ t.succ = (dat V c).Φ t.castSucc from rfl,
    show (dat V c).owesAt () t.succ = (dat V c).owesAt () t.castSucc from rfl,
    after1_0, after1_1, after1_2, after1_3, after1_4, after1_5, after1_6, after1_7, after1_8, after1_9, after1_10, after1_11, after1_12]
  unfold outsAt1
  unfold out1_A_8 out1_A_9 out1_A_10 out1_A_11 out1_A_12; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun1_A c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, ⟨%e8, H8⟩, ⟨%e9, H9⟩, ⟨%e10, H10⟩, ⟨%e11, H11⟩, ⟨%e12, H12⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover1_A_11 c _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover1_A_12 c _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Proof.B1

end
-- ==== Proof.B2.lean ====
/- One region of the program: the kernel for dx. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.B2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val % 36 = 0 :=
  (fun t => by
    have ht : t.val < 36 := Nat.lt_of_lt_of_eq t.isLt N_2
    have e0 : (grid2.coords t 0).val = t.val / 6 % 6 := Pipeline.Grid.coords_val t 0 (by decide) rfl
    have e1 : (grid2.coords t 1).val = t.val / 1 % 6 := Pipeline.Grid.coords_val t 1 (by decide) rfl
    simp only [cond2_0, e0, e1]
    word_cmp
   : ∀ t : Fin grid2.N, cond2_0 (grid2.coords t) ↔ t.val % 36 = 0)

abbrev VO2_5 : View sig .tc .vmem S1x512x5120 .bf16 := (Memref.whole cc2_stg5_0 : Memref sig .tc .vmem S1x512x5120 .bf16).view
abbrev ms2_0 (t : Fin cfg2.N) : Memref sig .tc .vmem S1x512x1280 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1280 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1280x5120 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5120x1280 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1280 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x5120 .bf16 := win2_5.stage (cfg2.slots t 5)
abbrev hs2_5 (t : Fin cfg2.N) : (ms2_5 t).IsWhole := hstage2_5 ((cfg2.slots t 5).cast nbuf2_5)
abbrev scM2_0 : Memref sig .tc .vmem S5120x1280 .bf16 := Memref.whole cc2_scratch0
abbrev VS2_0 : View sig .tc .vmem S5120x1280 .bf16 := scM2_0.view

theorem PhiA_eq (c : Dev nD) :
    (Pipeline.ΦA spec2 c : sProp 𝕄)
      = iprop(iprop((∃ d, owns (c : Thread nD τ) scM2_0 fullShare d)) ∗ (Pipeline.scopedRestBut spec2 c [cc2_scratch0] ∗ ∃ r, prngReg c r)) := by
  unfold Pipeline.ΦA; rw [scopedRest2_split]; simp only [scM2_0, owns_whole]
  exact sep_assoc.antisymm sep_assoc'

set_option maxHeartbeats 1000000 in
noncomputable def kernelRun2_A (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) :
    Σ' (L5 : List (View.Piece (Elt F) S1x512x5120 .bf16)), { LS0 : List (View.Piece (Elt F) S5120x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2_dx i arg2 harg2 arg3 harg3 arg4 harg4 arg5 harg5 arg6 harg6 arg7 harg7 arg8 harg8) K } := by
  refine ⟨?_, ?_, fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

set_option maxHeartbeats 1000000 in
noncomputable def kernelRun2_B (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) :
    Σ' (L5 : List (View.Piece (Elt F) S1x512x5120 .bf16)), { LS0 : List (View.Piece (Elt F) S5120x1280 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2_dx i arg2 harg2 arg3 harg3 arg4 harg4 arg5 harg5 arg6 harg6 arg7 harg7 arg8 harg8) K } := by
  refine ⟨?_, [], fun E K => ?run⟩
  case run =>
    simp only [cc2_dx_eq_skeleton]; unfold cc2_dx_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

theorem cover2_A_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (y : S1x512x5120.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S1x512x5120.size (by sl_kernel_rfl) y

def out2_A_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) : Vec F S1x512x5120 .bf16 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

theorem scover2_A_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (y : S5120x1280.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S5120x1280.size (by sl_kernel_rfl) y

def sout2_A_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) : Vec F S5120x1280 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

theorem cover2_B_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) (y : S1x512x5120.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S1x512x5120.size (by sl_kernel_rfl) y

def out2_B_5 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) : Vec F S1x512x5120 .bf16 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

def sout2_B_0 (c : Dev nD) (i : grid2.Coords) (arg2 : Memref sig .tc .vmem S1x512x1280 .bf16) (harg2 : arg2.IsWhole) (arg3 : Memref sig .tc .vmem S1x512x1280 .bf16) (harg3 : arg3.IsWhole) (arg4 : Memref sig .tc .vmem S1x1280x5120 .fp8e5m2) (harg4 : arg4.IsWhole) (arg5 : Memref sig .tc .vmem S5120x1280 .fp8e4m3) (harg5 : arg5.IsWhole) (arg6 : Memref sig .tc .vmem S1x1280 .f32) (harg6 : arg6.IsWhole) (arg7 : Memref sig .tc .vmem S1x512x5120 .bf16) (harg7 : arg7.IsWhole) (arg8 : Memref sig .tc .vmem S5120x1280 .bf16) (harg8 : arg8.IsWhole) (hc0 : ¬cond2_0 i)
    (x0 : Vec F S1x512x1280 .bf16) (x1 : Vec F S1x512x1280 .bf16) (x2 : Vec F S1x1280x5120 .fp8e5m2) (x3 : Vec F S5120x1280 .fp8e4m3) (x4 : Vec F S1x1280 .f32) (xs0 : Vec F S5120x1280 .bf16) : Vec F S5120x1280 .bf16 := xs0

def outsAt2 (c : Dev nD) : (n : ℕ) → n < cfg2.N → Vec F S1x512x5120 .bf16 × Vec F S5120x1280 .bf16
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 36 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt2 c n (Nat.lt_of_succ_lt hn)).2)

theorem outsAt2_A (c : Dev nD) (t : Fin cfg2.N) (h0 : t.val % 36 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk V c 0 t) (iblk V c 1 t) (iblk V c 2 t) (iblk V c 3 t) (iblk V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk V c 0 t) (iblk V c 1 t) (iblk V c 2 t) (iblk V c 3 t) (iblk V c 4 t)) := by
  obtain ⟨n, hn⟩ := t
  cases n with
  | zero => exact rfl
  | succ n => exact (dif_pos h0).trans rfl

theorem outsAt2_B (c : Dev nD) (t : Fin cfg2.N) (h0 : ¬t.val % 36 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk V c 0 t) (iblk V c 1 t) (iblk V c 2 t) (iblk V c 3 t) (iblk V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk V c 0 t) (iblk V c 1 t) (iblk V c 2 t) (iblk V c 3 t) (iblk V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ (Pipeline.scopedRestBut spec2 c [cc2_scratch0] ∗ ∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2)) ∗ (Pipeline.scopedRestBut spec2 c [cc2_scratch0] ∗ ∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2)) ∗ (Pipeline.scopedRestBut spec2 c [cc2_scratch0] ∗ ∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; exact Pipeline.Dat.Φ_castSucc (PhiS V c) t

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = (outsAt2 V c t.val t.isLt).1 := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d)))

def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t)
    ∗ owns (c : Thread nD τ) (ms2_5 t) fullShare ((dat V c).after 5 t))

set_option maxHeartbeats 3200000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).owesAt () t.succ = (dat V c).owesAt () t.castSucc from rfl,
    after2_0, after2_1, after2_2, after2_3, after2_4, after2_5]
  rw [show (dat V c).Φ t.succ = PhiS V c (t.val + 1) t.isLt from rfl, PhiS_succ]
  have hN : t.val < 36 := lt_of_lt_of_eq t.isLt (show cfg2.N = 36 from N_2)
  by_cases h0 : t.val % 36 = 0
  · by_cases hz : t.val = 0
    · rw [PhiS_castSucc V c t, PhiS_zero V c _ _ hz, PhiA_eq]
      rw [outsAt2_A V c t h0]
      unfold out2_A_5 sout2_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (iblk V c 0 t) (iblk V c 1 t) (iblk V c 2 t) (iblk V c 3 t) (iblk V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hg]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · exfalso; have hN : t.val < 36 := lt_of_lt_of_eq t.isLt (show cfg2.N = 36 from N_2); omega
  · by_cases hz : t.val = 0
    · exfalso; have hN : t.val < 36 := lt_of_lt_of_eq t.isLt (show cfg2.N = 36 from N_2); omega
    · rw [PhiS_castSucc V c t, PhiS_pos V c _ _ hz]
      rw [outsAt2_B V c t h0]
      unfold out2_B_5 sout2_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _ _)

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨HS0, Hg⟩
  isplitl [HS0]
  · iexists _; iexact HS0
  iexact Hg

theorem hout (c : Dev nD) : (dat V c).Φ (Fin.last cfg2.N) ⊢ Pipeline.ΦA spec2 c :=
  Phi_out V c _ (by rw [Fin.val_last]; have : cfg2.N = 36 := N_2; omega)

end Cert.Proof.B2

end
-- ==== Proof.B3.lean ====
/- One region of the program: the kernel for the slot outputs. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.B3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S1x1280x3072 := Rect.unit (s := S1x1280x3072) ![0, 0, 0] S1x1280x3072.size inb_S1x1280x3072_S1x1280x3072_0_0_0
abbrev r0_1 : Rect S1x3072x1024 := Rect.unit (s := S1x3072x1024) ![0, 0, 0] S1x3072x1024.size inb_S1x3072x1024_S1x3072x1024_0_0_0
abbrev r0_2 : Rect S1x1280x1024 := Rect.unit (s := S1x1280x1024) ![0, 0, 0] S1x1280x1024.size inb_S1x1280x1024_S1x1280x1024_0_0_0

def out3_2 (x0 : Vec F S1x1280x3072 .bf16) (x1 : Vec F S1x3072x1024 .fp8e5m2) : Vec F S1x1280x1024 .bf16 :=
  View.canon [⟨r0_2, k3_pay1 (View.ld x0 r0_0) (View.ld x1 r0_1)⟩]

theorem cover3_2 (p0 : Vec F S1x1280x1024 .bf16) (y : S1x1280x1024.Idx) :
    ∃ pc ∈ ([⟨r0_2, p0⟩] : List (View.Piece (Elt F) S1x1280x1024 .bf16)), y ∈ pc.1.set :=
  View.cover_of_tiled [⟨r0_2, p0⟩] S1x1280x1024.size (by rfl) y

set_option maxHeartbeats 1000000 in
theorem sound_kernel (c : Dev nD) (E : Set ℕ) (i : grid3.Coords) (arg2 : Memref sig .tc .vmem S1x1280x3072 .bf16) (harg2 : arg2.IsWhole) (arg3 : Memref sig .tc .vmem S1x3072x1024 .fp8e5m2) (harg3 : arg3.IsWhole) (arg4 : Memref sig .tc .vmem S1x1280x1024 .bf16) (harg4 : arg4.IsWhole)
    (x0 : Vec F S1x1280x3072 .bf16) (x1 : Vec F S1x3072x1024 .fp8e5m2) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_dslot i arg2 harg2 arg3 harg3 arg4 harg4) K := by
  simp only [cc3_dslot_eq_skeleton]; unfold cc3_dslot_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out3_2 (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = out3_2 (iblk V c 0 t) (iblk V c 1 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1]
  rw [show (dat V c).Φ t.succ = (dat V c).Φ t.castSucc from rfl,
    show (dat V c).owesAt () t.succ = (dat V c).owesAt () t.castSucc from rfl,
    after3_0, after3_1, after3_2]
  iintro ⟨HΦ, Ho, ⟨%d0, H0⟩, ⟨%d1, H1⟩, ⟨%d2, H2⟩⟩
  iapply (sound_kernel c Set.univ (grid3.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.Proof.B3

end
-- ==== Proof.B4.lean ====
/- One region of the program: the kernel for dphi. The whole-body run of the kernel at a generic grid point, by cases of its
   branch conditions; what its output buffers (and a carried scratch buffer) hold after each point; the proof data of its
   pipeline over any contents `V` of the buffers at the region's entry; and the body's obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.B4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 6 = 0 :=
  (fun t => by
    have ht : t.val < 30 := Nat.lt_of_lt_of_eq t.isLt N_4
    have e0 : (grid4.coords t 0).val = t.val / 6 % 5 := Pipeline.Grid.coords_val t 0 (by decide) rfl
    have e1 : (grid4.coords t 1).val = t.val / 1 % 6 := Pipeline.Grid.coords_val t 1 (by decide) rfl
    simp only [cond4_0, e0, e1]
    word_cmp
   : ∀ t : Fin grid4.N, cond4_0 (grid4.coords t) ↔ t.val % 6 = 0)

abbrev cond4_1 (i : grid4.Coords) : Prop := k4_cond2 i = 1#1
theorem hcond4_1 : ∀ t : Fin cfg4.N, cond4_1 (grid4.coords t) ↔ t.val % 6 = 5 :=
  (fun t => by
    have ht : t.val < 30 := Nat.lt_of_lt_of_eq t.isLt N_4
    have e0 : (grid4.coords t 0).val = t.val / 6 % 5 := Pipeline.Grid.coords_val t 0 (by decide) rfl
    have e1 : (grid4.coords t 1).val = t.val / 1 % 6 := Pipeline.Grid.coords_val t 1 (by decide) rfl
    simp only [cond4_1, k4_cond2, e0, e1]
    word_cmp
   : ∀ t : Fin grid4.N, cond4_1 (grid4.coords t) ↔ t.val % 6 = 5)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel

abbrev VO4_3 : View sig .tc .vmem S1024x1280 .bf16 := (Memref.whole cc4_stg3_0 : Memref sig .tc .vmem S1024x1280 .bf16).view
abbrev ms4_0 (t : Fin cfg4.N) : Memref sig .tc .vmem S1x1280x3072 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x3072x1024 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S6x3072 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1280 .bf16 := win4_3.stage (cfg4.slots t 3)
abbrev hs4_3 (t : Fin cfg4.N) : (ms4_3 t).IsWhole := hstage4_3 ((cfg4.slots t 3).cast nbuf4_3)
abbrev scM4_0 : Memref sig .tc .vmem S3072x1024 .bf16 := Memref.whole cc4_scratch0
abbrev scM4_1 : Memref sig .tc .vmem S1280x1024 .f32 := Memref.whole cc4_scratch1
abbrev VS4_1 : View sig .tc .vmem S1280x1024 .f32 := scM4_1.view

theorem PhiA_eq (c : Dev nD) :
    (Pipeline.ΦA spec4 c : sProp 𝕄)
      = iprop(iprop((∃ d, owns (c : Thread nD τ) scM4_0 fullShare d) ∗ (∃ d, owns (c : Thread nD τ) scM4_1 fullShare d)) ∗ (Pipeline.scopedRestBut spec4 c [cc4_scratch0, cc4_scratch1] ∗ ∃ r, prngReg c r)) := by
  unfold Pipeline.ΦA; rw [scopedRest4_split]; simp only [scM4_0, scM4_1, owns_whole]
  exact sep_assoc.antisymm sep_assoc'

set_option maxHeartbeats 1000000 in
noncomputable def kernelRun4_A (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) :
    Σ' (L3 : List (View.Piece (Elt F) S1024x1280 .bf16)), Σ' (LS1 : List (View.Piece (Elt F) S1280x1024 .f32)), { LT0 : List (View.Piece (Elt F) S3072x1024 .bf16) //
      ∀ (xi3 : Vec F S1024x1280 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨[], ?_, ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
noncomputable def kernelRun4_B (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) :
    Σ' (L3 : List (View.Piece (Elt F) S1024x1280 .bf16)), Σ' (LS1 : List (View.Piece (Elt F) S1280x1024 .f32)), { LT0 : List (View.Piece (Elt F) S3072x1024 .bf16) //
      ∀ (xi3 : Vec F S1024x1280 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨[], ?_, ?_, fun xi3 E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
noncomputable def kernelRun4_C (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) :
    Σ' (L3 : List (View.Piece (Elt F) S1024x1280 .bf16)), Σ' (LS1 : List (View.Piece (Elt F) S1280x1024 .f32)), { LT0 : List (View.Piece (Elt F) S3072x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc4_dphi i arg2 harg2 arg3 harg3 arg4 harg4 arg5 harg5 arg6 harg6 arg7 harg7) K } := by
  refine ⟨?_, ?_, ?_, fun E K => ?run⟩
  case run =>
    simp only [cc4_dphi_eq_skeleton]; unfold cc4_dphi_skel
    unfold owns
    iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

def out4_A_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) : Vec F S1024x1280 .bf16 :=
  VO4_3.read (Elt F) (VO4_3.writes (Elt F) VO4_3.junk (kernelRun4_A c i arg2 harg2 arg3 harg3 arg4 harg4 arg5 harg5 arg6 harg6 arg7 harg7 hc0 hc1 x0 x1 x2).1)

theorem scover4_A_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) (y : S1280x1024.Idx) :
    ∃ pc ∈ (kernelRun4_A c i arg2 harg2 arg3 harg3 arg4 harg4 arg5 harg5 arg6 harg6 arg7 harg7 hc0 hc1 x0 x1 x2).2.1, y ∈ pc.1.set :=
  View.cover_of_tiledL (kernelRun4_A c i arg2 harg2 arg3 harg3 arg4 harg4 arg5 harg5 arg6 harg6 arg7 harg7 hc0 hc1 x0 x1 x2).2.1 S1280x1024.size (by sl_kernel_rfl) y

def sout4_A_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : cond4_0 i) (hc1 : ¬cond4_1 i)
    (x0 : Vec F S1x1280x3072 .bf16) (x1 : Vec F S1x3072x1024 .fp8e4m3) (x2 : Vec F S6x3072 .f32) : Vec F S1280x1024 .f32 :=
  VS4_1.read (Elt F) (VS4_1.writes (Elt F) VS4_1.junk (kernelRun4_A c i arg2 harg2 arg3 harg3 arg4 harg4 arg5 harg5 arg6 harg6 arg7 harg7 hc0 hc1 x0 x1 x2).2.1)

def out4_B_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) : Vec F S1024x1280 .bf16 :=
  VO4_3.read (Elt F) (VO4_3.writes (Elt F) VO4_3.junk (kernelRun4_B c i arg2 harg2 arg3 harg3 arg4 harg4 arg5 harg5 arg6 harg6 arg7 harg7 hc0 hc1 x0 x1 x2 xs1).1)

theorem scover4_B_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) (y : S1280x1024.Idx) :
    ∃ pc ∈ (kernelRun4_B c i arg2 harg2 arg3 harg3 arg4 harg4 arg5 harg5 arg6 harg6 arg7 harg7 hc0 hc1 x0 x1 x2 xs1).2.1, y ∈ pc.1.set :=
  View.cover_of_tiledL (kernelRun4_B c i arg2 harg2 arg3 harg3 arg4 harg4 arg5 harg5 arg6 harg6 arg7 harg7 hc0 hc1 x0 x1 x2 xs1).2.1 S1280x1024.size (by sl_kernel_rfl) y

def sout4_B_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : ¬cond4_1 i)
    (x0 : Vec F S1x1280x3072 .bf16) (x1 : Vec F S1x3072x1024 .fp8e4m3) (x2 : Vec F S6x3072 .f32) (xs1 : Vec F S1280x1024 .f32) : Vec F S1280x1024 .f32 :=
  VS4_1.read (Elt F) (VS4_1.writes (Elt F) VS4_1.junk (kernelRun4_B c i arg2 harg2 arg3 harg3 arg4 harg4 arg5 harg5 arg6 harg6 arg7 harg7 hc0 hc1 x0 x1 x2 xs1).2.1)

theorem cover4_C_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) (y : S1024x1280.Idx) :
    ∃ pc ∈ (kernelRun4_C c i arg2 harg2 arg3 harg3 arg4 harg4 arg5 harg5 arg6 harg6 arg7 harg7 hc0 hc1 x0 x1 x2 xs1).1, y ∈ pc.1.set :=
  View.cover_of_tiledL (kernelRun4_C c i arg2 harg2 arg3 harg3 arg4 harg4 arg5 harg5 arg6 harg6 arg7 harg7 hc0 hc1 x0 x1 x2 xs1).1 S1024x1280.size (by sl_kernel_rfl) y

def out4_C_3 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) : Vec F S1024x1280 .bf16 :=
  VO4_3.read (Elt F) (VO4_3.writes (Elt F) VO4_3.junk (kernelRun4_C c i arg2 harg2 arg3 harg3 arg4 harg4 arg5 harg5 arg6 harg6 arg7 harg7 hc0 hc1 x0 x1 x2 xs1).1)

theorem scover4_C_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) (y : S1280x1024.Idx) :
    ∃ pc ∈ (kernelRun4_C c i arg2 harg2 arg3 harg3 arg4 harg4 arg5 harg5 arg6 harg6 arg7 harg7 hc0 hc1 x0 x1 x2 xs1).2.1, y ∈ pc.1.set :=
  View.cover_of_tiledL (kernelRun4_C c i arg2 harg2 arg3 harg3 arg4 harg4 arg5 harg5 arg6 harg6 arg7 harg7 hc0 hc1 x0 x1 x2 xs1).2.1 S1280x1024.size (by sl_kernel_rfl) y

def sout4_C_1 (c : Dev nD) (i : grid4.Coords) (arg2 : Memref sig .tc .vmem S1x1280x3072 .bf16) (harg2 : arg2.IsWhole) (arg3 : Memref sig .tc .vmem S1x3072x1024 .fp8e4m3) (harg3 : arg3.IsWhole) (arg4 : Memref sig .tc .vmem S6x3072 .f32) (harg4 : arg4.IsWhole) (arg5 : Memref sig .tc .vmem S1024x1280 .bf16) (harg5 : arg5.IsWhole) (arg6 : Memref sig .tc .vmem S3072x1024 .bf16) (harg6 : arg6.IsWhole) (arg7 : Memref sig .tc .vmem S1280x1024 .f32) (harg7 : arg7.IsWhole) (hc0 : ¬cond4_0 i) (hc1 : cond4_1 i)
    (x0 : Vec F S1x1280x3072 .bf16) (x1 : Vec F S1x3072x1024 .fp8e4m3) (x2 : Vec F S6x3072 .f32) (xs1 : Vec F S1280x1024 .f32) : Vec F S1280x1024 .f32 :=
  VS4_1.read (Elt F) (VS4_1.writes (Elt F) VS4_1.junk (kernelRun4_C c i arg2 harg2 arg3 harg3 arg4 harg4 arg5 harg5 arg6 harg6 arg7 harg7 hc0 hc1 x0 x1 x2 xs1).2.1)

def outsAt4 (c : Dev nD) : (n : ℕ) → n < cfg4.N → Vec F S1024x1280 .bf16 × Vec F S1280x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk V c 0 ⟨0, hn⟩) (iblk V c 1 ⟨0, hn⟩) (iblk V c 2 ⟨0, hn⟩))
  | n + 1, hn =>
    if h0 : (n + 1) % 6 = 0 then
      if h1 : (n + 1) % 6 = 5 then
        False.elim (by have hN : n + 1 < 30 := lt_of_lt_of_eq hn (show cfg4.N = 30 from N_4); omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk V c 0 ⟨n + 1, hn⟩) (iblk V c 1 ⟨n + 1, hn⟩) (iblk V c 2 ⟨n + 1, hn⟩))
    else
      if h1 : (n + 1) % 6 = 5 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk V c 0 ⟨n + 1, hn⟩) (iblk V c 1 ⟨n + 1, hn⟩) (iblk V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk V c 0 ⟨n + 1, hn⟩) (iblk V c 1 ⟨n + 1, hn⟩) (iblk V c 2 ⟨n + 1, hn⟩) (outsAt4 c n (Nat.lt_of_succ_lt hn)).2)

theorem outsAt4_A (c : Dev nD) (t : Fin cfg4.N) (h0 : t.val % 6 = 0) (h1 : ¬t.val % 6 = 5) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk V c 0 t) (iblk V c 1 t) (iblk V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 6 = 0) (h1 : ¬t.val % 6 = 5) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 6 = 0) (h1 : t.val % 6 = 5) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk V c 0 t) (iblk V c 1 t) (iblk V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg4.N → sProp 𝕄
  | 0, _ => Pipeline.ΦA spec4 c
  | n + 1, hn => iprop(iprop((∃ d, owns (c : Thread nD τ) scM4_0 fullShare d) ∗ owns (c : Thread nD τ) scM4_1 fullShare ((outsAt4 V c n hn).2)) ∗ (Pipeline.scopedRestBut spec4 c [cc4_scratch0, cc4_scratch1] ∗ ∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop((∃ d, owns (c : Thread nD τ) scM4_0 fullShare d) ∗ owns (c : Thread nD τ) scM4_1 fullShare ((outsAt4 V c n hn).2)) ∗ (Pipeline.scopedRestBut spec4 c [cc4_scratch0, cc4_scratch1] ∗ ∃ r, prngReg c r)) := rfl

theorem PhiS_pos (c : Dev nD) (n : ℕ) (h : n ≤ cfg4.N) (hz : n ≠ 0) :
    PhiS V c n h = iprop(iprop((∃ d, owns (c : Thread nD τ) scM4_0 fullShare d) ∗ owns (c : Thread nD τ) scM4_1 fullShare ((outsAt4 V c (n - 1) (by omega)).2)) ∗ (Pipeline.scopedRestBut spec4 c [cc4_scratch0, cc4_scratch1] ∗ ∃ r, prngReg c r)) := by
  cases n with
  | zero => exact absurd rfl hz
  | succ n => rfl

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => (outsAt4 V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; exact Pipeline.Dat.Φ_castSucc (PhiS V c) t

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = (outsAt4 V c t.val t.isLt).1 := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d

def bodyPre (c : Dev nD) (t : Fin cfg4.N) : sProp 𝕄 :=
  iprop((dat V c).Φ t.castSucc ∗ (dat V c).owesAt () t.castSucc
    ∗ (∃ d, owns (c : Thread nD τ) (ms4_0 t) fullShare ((dat V c).before 0 t d))
    ∗ (∃ d, owns (c : Thread nD τ) (ms4_1 t) fullShare ((dat V c).before 1 t d))
    ∗ (∃ d, owns (c : Thread nD τ) (ms4_2 t) fullShare ((dat V c).before 2 t d))
    ∗ (∃ d, owns (c : Thread nD τ) (ms4_3 t) fullShare ((dat V c).before 3 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before4_0, before4_1, before4_2]
  rw [show (dat V c).owesAt () t.succ = (dat V c).owesAt () t.castSucc from rfl]
  rw [show (dat V c).Φ t.succ = PhiS V c (t.val + 1) t.isLt from rfl, PhiS_succ]
  have hN : t.val < 30 := lt_of_lt_of_eq t.isLt (show cfg4.N = 30 from N_4)
  by_cases h0 : t.val % 6 = 0
  · by_cases h1 : t.val % 6 = 5
    · exfalso; omega
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_A t ((hcond4_0 t).mpr h0) (fun h => h1 ((hcond4_1 t).mp h))) (noFlush4_3_A t ((hcond4_0 t).mpr h0) (fun h => h1 ((hcond4_1 t).mp h)))]
      by_cases hz : t.val = 0
      · rw [PhiS_castSucc V c t, PhiS_zero V c _ _ hz, PhiA_eq]
        rw [outsAt4_A V c t h0 h1]
        unfold sout4_A_1; (try dsimp only)
        iintro ⟨⟨⟨HS0, HS1⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) (fun h => h1 ((hcond4_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt4_A V c t h0 h1]
        unfold sout4_A_1; (try dsimp only)
        iintro ⟨⟨⟨HS0, HS1⟩, Hg⟩, Ho, ⟨%d0, H0⟩, ⟨%d1, H1⟩, ⟨%d2, H2⟩, ⟨%d3, H3⟩⟩
        iapply ((kernelRun4_A c (grid4.coords t) _ _ _ _ _ _ _ _ _ _ _ _ ((hcond4_0 t).mpr h0) (fun h => h1 ((hcond4_1 t).mp h)) (iblk V c 0 t) (iblk V c 1 t) (iblk V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexists _; iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 6 = 5
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [show (dat V c).leavesExact 3 t = owns (c : Thread nD τ) (ms4_3 t) fullShare ((dat V c).after 3 t) from by
      unfold Dat.leavesExact; rw [liveAt4_3_C t (fun h => h0 ((hcond4_0 t).mp h)) ((hcond4_1 t).mpr h1)], after4_3]
      by_cases hz : t.val = 0
      · exfalso; have hN : t.val < 30 := lt_of_lt_of_eq t.isLt (show cfg4.N = 30 from N_4); omega
      · rw [PhiS_castSucc V c t, PhiS_pos V c _ _ hz]
        rw [outsAt4_C V c t h0 h1]
        unfold out4_C_3 sout4_C_1; (try dsimp only)
        iintro ⟨⟨⟨HS0, HS1⟩, Hg⟩, Ho, ⟨%d0, H0⟩, ⟨%d1, H1⟩, ⟨%d2, H2⟩, ⟨%d3, H3⟩⟩
        iapply ((kernelRun4_C c (grid4.coords t) _ _ _ _ _ _ _ _ _ _ _ _ (fun h => h0 ((hcond4_0 t).mp h)) ((hcond4_1 t).mpr h1) (iblk V c 0 t) (iblk V c 1 t) (iblk V c 2 t) _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_C_1 c _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover4_C_3 c _ _ _ _ _ _ _ _ _ _ _ _ _ _ _ _ _ _ _)
    · rw [show (dat V c).leavesExact 0 t = owns (c : Thread nD τ) (ms4_0 t) fullShare ((dat V c).after 0 t) from by
      unfold Dat.leavesExact; rw [liveAt4_0 t], after4_0]
      rw [show (dat V c).leavesExact 1 t = owns (c : Thread nD τ) (ms4_1 t) fullShare ((dat V c).after 1 t) from by
      unfold Dat.leavesExact; rw [liveAt4_1 t], after4_1]
      rw [show (dat V c).leavesExact 2 t = owns (c : Thread nD τ) (ms4_2 t) fullShare ((dat V c).after 2 t) from by
      unfold Dat.leavesExact; rw [liveAt4_2 t], after4_2]
      rw [Dat.leavesExact_idle (dat V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      by_cases hz : t.val = 0
      · exfalso; have hN : t.val < 30 := lt_of_lt_of_eq t.isLt (show cfg4.N = 30 from N_4); omega
      · rw [PhiS_castSucc V c t, PhiS_pos V c _ _ hz]
        rw [outsAt4_B V c t h0 h1]
        unfold sout4_B_1; (try dsimp only)
        iintro ⟨⟨⟨HS0, HS1⟩, Hg⟩, Ho, ⟨%d0, H0⟩, ⟨%d1, H1⟩, ⟨%d2, H2⟩, ⟨%d3, H3⟩⟩
        iapply ((kernelRun4_B c (grid4.coords t) _ _ _ _ _ _ _ _ _ _ _ _ (fun h => h0 ((hcond4_0 t).mp h)) (fun h => h1 ((hcond4_1 t).mp h)) (iblk V c 0 t) (iblk V c 1 t) (iblk V c 2 t) _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover4_B_1 c _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

theorem defs₀_row (t : Fin cfg4.N) :
    defs₀ (F := F) .tc cfg4.body (cfg4.bodyArgs t (cfg4.slots t)) = bodyAt4 t := by
  unfold defs₀; rw [Defs.onTc_tc]

theorem body_obligation (c : Dev nD) : BodyObligation (dat (F := F) V c) (defs₀ (F := F)) Variants.none () Set.univ := fun t => by
  rw [bigSep_W4, bigSep_W4, defs₀_row]
  exact triple_restated (sound_body V c t) rfl .rfl fun _ => .rfl

theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA_eq]
  iintro ⟨⟨HS0, HS1⟩, Hg⟩
  isplitl [HS0 HS1]
  · isplitl [HS0]
    · iexact HS0
    iexists _; iexact HS1
  iexact Hg

theorem hout (c : Dev nD) : (dat V c).Φ (Fin.last cfg4.N) ⊢ Pipeline.ΦA spec4 c :=
  Phi_out V c _ (by rw [Fin.val_last]; have : cfg4.N = 30 := N_4; omega)

end Cert.Proof.B4

end
-- ==== Proof.BChain.lean ====
/- The whole program as a chain of its items: the cast on the host and the five regions, each entered from what the one
   before it left. `W1` … `W6` are the contents of a core's buffers between items; `run_chain` says that every execution
   ends with every buffer at `W6` and every semaphore counter at zero. -/
module

public import proofs.«01_k».proof.Proof.Gen.Kernel.Regions
public import proofs.«01_k».proof.Proof.B0
public import proofs.«01_k».proof.Proof.B1
public import proofs.«01_k».proof.Proof.B2
public import proofs.«01_k».proof.Proof.B3
public import proofs.«01_k».proof.Proof.B4
public import Idealize.ShloMosaic.Lib.Pipeline.RegionArraysS

@[expose] public section

set_option maxRecDepth 16384

noncomputable section

namespace Cert.Proof.BChain

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between items -/

/-- A valuation of a core's buffers read at the TensorCore's references. -/
abbrev at_ (W : Dev nD → Valuation τ sig (Elt F)) (c : Dev nD) (b : Ref sig .tc) : Buf (Elt F) ((c : Thread nD τ).loc b) :=
  W c (Proc.devRef .tc b)

/-- After the cast on the host. -/
def W1 (c : Dev nD) : Valuation τ sig (Elt F) := V1 m c
/-- After region 0. -/
def W2 (c : Dev nD) : Valuation τ sig (Elt F) := Pipeline.afterRegion (B0.dat (at_ (W1 m)) c) (W1 m c)
/-- After region 1. -/
def W3 (c : Dev nD) : Valuation τ sig (Elt F) := Pipeline.afterRegion (B1.dat (at_ (W2 m)) c) (W2 m c)
/-- After region 2. -/
def W4 (c : Dev nD) : Valuation τ sig (Elt F) := Pipeline.afterRegion (B2.dat (at_ (W3 m)) c) (W3 m c)
/-- After region 3. -/
def W5 (c : Dev nD) : Valuation τ sig (Elt F) := Pipeline.afterRegion (B3.dat (at_ (W4 m)) c) (W4 m c)
/-- After region 4. -/
def W6 (c : Dev nD) : Valuation τ sig (Elt F) := Pipeline.afterRegion (B4.dat (at_ (W5 m)) c) (W5 m c)

/-- The proof data of the five pipelines, each entered from what the region before it left. -/
def pdats : (p : Fin 5) → (c : Dev nD) → Dat τ (Elt F) Unit ℕ (UR sig nD τ) ℕ (cfgs p) c
  | ⟨0, _⟩ => fun c => B0.dat (at_ (W1 m)) c
  | ⟨1, _⟩ => fun c => B1.dat (at_ (W2 m)) c
  | ⟨2, _⟩ => fun c => B2.dat (at_ (W3 m)) c
  | ⟨3, _⟩ => fun c => B3.dat (at_ (W4 m)) c
  | ⟨4, _⟩ => fun c => B4.dat (at_ (W5 m)) c

/-- Every TensorCore semaphore is assigned the one index. -/
def lvL (g : GSem nD τ sig) : Finset Unit := if g.1.2 = .tc then {()} else ∅
/-- At level zero. -/
def lvl (_ : GSem nD τ sig) (_ : Unit) : ℕ := 0

theorem lvL_tc (g : GSem nD τ sig) (h : g.1.2 ≠ .tc) : lvL g = ∅ := if_neg h

theorem cut (p : Fin 5) : Pipeline.LevelCut (pcfgs (F := F)) adm () lvL lvl p (fun _ => 0) (fun _ => 0) where
  hι := fun c w s => by unfold lvL; rw [if_pos rfl]; exact Finset.mem_singleton.mpr rfl
  hιb := fun _ _ _ => Nat.le_refl 0
  hD := fun _ _ _ h => absurd h (Nat.lt_irrefl 0)

/-- What rides beside the buffers between items: what the core owes (nothing) and the generator register. -/
abbrev rest (c : Dev nD) : sProp 𝕄 :=
  iprop((∃ Wd, owes (c : Thread nD τ) (0 : CellTallies nD τ sig Unit) Wd) ∗ (∃ r, prngReg c r) ∗ emp)

/-- Into a region: the buffers `S` split at the region's arrays `A`. -/
theorem enter (c : Dev nD) {A S : Finset (DevRef τ sig)} (hS : A ⊆ S) (W : Valuation τ sig (Elt F)) :
    (iprop(StableHlo.held (c : Thread nD τ) S W ∗ rest c) : sProp 𝕄)
      ⊢ iprop(StableHlo.held (c : Thread nD τ) A W ∗ (∃ r, prngReg c r) ∗ (StableHlo.held (c : Thread nD τ) (S \ A) W ∗ emp)
        ∗ ∃ Wd, owes (c : Thread nD τ) (0 : CellTallies nD τ sig Unit) Wd) := by
  rw [StableHlo.held_sub_split (c : Thread nD τ) hS W]
  iintro ⟨⟨Ha, Hu⟩, HO, HX, HR⟩
  isplitl [Ha]; · iexact Ha
  isplitl [HX]; · iexact HX
  isplitl [Hu HR]
  · isplitl [Hu]; · iexact Hu
    iexact HR
  iexact HO

/-- Out of a region: its arrays at `W'` rejoined with the other buffers, on which `W'` is `W`. -/
theorem leave (c : Dev nD) {A S : Finset (DevRef τ sig)} (hS : A ⊆ S) (W W' : Valuation τ sig (Elt F)) (h : ∀ b ∈ S \ A, W' b = W b) :
    (iprop(StableHlo.held (c : Thread nD τ) A W' ∗ (∃ r, prngReg c r) ∗ (StableHlo.held (c : Thread nD τ) (S \ A) W ∗ emp)
        ∗ ∃ Wd, owes (c : Thread nD τ) (0 : CellTallies nD τ sig Unit) Wd) : sProp 𝕄)
      ⊢ iprop(StableHlo.held (c : Thread nD τ) S W' ∗ rest c) := by
  rw [StableHlo.held_sub_split (c : Thread nD τ) hS W', StableHlo.held_congr (c : Thread nD τ) (S := S \ A) h]
  iintro ⟨Ha, HY, ⟨Hu, HR⟩, HO⟩
  isplitl [Ha Hu]
  · isplitl [Ha]; · iexact Ha
    iexact Hu
  isplitl [HO]; · iexact HO
  isplitl [HY]; · iexact HY
  iexact HR

/-! ## The regions' records -/

set_option backward.isDefEq.respectTransparency.types false in
/-- Region 0. -/
def R0 : RegionSeg (pcfgs (F := F)) adm (pdats m) () defs₀ Variants.none lvL lvl 0 :=
  Pipeline.RegionSeg.ofHeldIn (pcfgs (F := F)) adm (pdats m) () defs₀ Variants.none lvL lvl 0 (fun _ => 0) (Pipeline.ucRefs τ sig)
    (fun c => iprop(∃ r, prngReg c r)) (fun c => iprop(∃ r, prngReg c r)) launch0.toP rfl
    (fun c => (B0.body_obligation (at_ (W1 m)) c).loose) (fun _ _ => rfl) (fun _ => rfl)
    (fun c => ((pdats m) 0 c).share_full fun _ => rfl)
    (fun _ => .rfl) (fun _ => .rfl) (fun _ => 0) (cut 0) (fun _ => iprop(emp)) (W1 m)
    (fun c w => B0.A_eq (at_ (W1 m)) c w)

theorem R0_pre (c : Dev nD) :
    iprop(StableHlo.held (c : Thread nD τ) (Pipeline.ucRefs τ sig) (W1 m c) ∗ rest c) ⊢ (R0 m).pre c := by
  show _ ⊢ iprop(StableHlo.held (c : Thread nD τ) (Pipeline.arrRefs (τ := τ) spec0) (W1 m c) ∗ (∃ r, prngReg c r)
    ∗ (StableHlo.held (c : Thread nD τ) (Pipeline.ucRefs τ sig \ Pipeline.arrRefs (τ := τ) spec0) (W1 m c) ∗ emp)
    ∗ ∃ Wd, owes (c : Thread nD τ) (0 : CellTallies nD τ sig Unit) Wd)
  exact enter c (Pipeline.arrRefs_sub_ucRefs spec0 (by decide)) (W1 m c)

theorem R0_post (c : Dev nD) :
    (R0 m).post c ⊢ iprop(StableHlo.held (c : Thread nD τ) (Pipeline.ucRefs τ sig) (W2 m c) ∗ rest c) := by
  show iprop(StableHlo.held (c : Thread nD τ) (Pipeline.arrRefs (τ := τ) spec0) (W2 m c) ∗ (∃ r, prngReg c r)
    ∗ (StableHlo.held (c : Thread nD τ) (Pipeline.ucRefs τ sig \ Pipeline.arrRefs (τ := τ) spec0) (W1 m c) ∗ emp)
    ∗ ∃ Wd, owes (c : Thread nD τ) (0 : CellTallies nD τ sig Unit) Wd) ⊢ _
  exact leave c (Pipeline.arrRefs_sub_ucRefs spec0 (by decide)) (W1 m c) (W2 m c)
    (Pipeline.afterRegion_off (B0.dat (at_ (W1 m)) c) (W1 m c) (Pipeline.ucRefs τ sig))

set_option backward.isDefEq.respectTransparency.types false in
/-- Region 1. -/
def R1 : RegionSeg (pcfgs (F := F)) adm (pdats m) () defs₀ Variants.none lvL lvl 1 :=
  Pipeline.RegionSeg.ofHeldIn (pcfgs (F := F)) adm (pdats m) () defs₀ Variants.none lvL lvl 1 (fun _ => 0) (Pipeline.ucRefs τ sig)
    (fun c => iprop(∃ r, prngReg c r)) (fun c => iprop(∃ r, prngReg c r)) launch1.toP rfl
    (fun c => (B1.body_obligation (at_ (W2 m)) c).loose) (fun _ _ => rfl) (fun _ => rfl)
    (fun c => ((pdats m) 1 c).share_full fun _ => rfl)
    (fun _ => .rfl) (fun _ => .rfl) (fun _ => 0) (cut 1) (fun _ => iprop(emp)) (W2 m)
    (fun c w => B1.A_eq (at_ (W2 m)) c w)

theorem R1_pre (c : Dev nD) :
    iprop(StableHlo.held (c : Thread nD τ) (Pipeline.ucRefs τ sig) (W2 m c) ∗ rest c) ⊢ (R1 m).pre c := by
  show _ ⊢ iprop(StableHlo.held (c : Thread nD τ) (Pipeline.arrRefs (τ := τ) spec1) (W2 m c) ∗ (∃ r, prngReg c r)
    ∗ (StableHlo.held (c : Thread nD τ) (Pipeline.ucRefs τ sig \ Pipeline.arrRefs (τ := τ) spec1) (W2 m c) ∗ emp)
    ∗ ∃ Wd, owes (c : Thread nD τ) (0 : CellTallies nD τ sig Unit) Wd)
  exact enter c (Pipeline.arrRefs_sub_ucRefs spec1 (by decide)) (W2 m c)

theorem R1_post (c : Dev nD) :
    (R1 m).post c ⊢ iprop(StableHlo.held (c : Thread nD τ) (Pipeline.ucRefs τ sig) (W3 m c) ∗ rest c) := by
  show iprop(StableHlo.held (c : Thread nD τ) (Pipeline.arrRefs (τ := τ) spec1) (W3 m c) ∗ (∃ r, prngReg c r)
    ∗ (StableHlo.held (c : Thread nD τ) (Pipeline.ucRefs τ sig \ Pipeline.arrRefs (τ := τ) spec1) (W2 m c) ∗ emp)
    ∗ ∃ Wd, owes (c : Thread nD τ) (0 : CellTallies nD τ sig Unit) Wd) ⊢ _
  exact leave c (Pipeline.arrRefs_sub_ucRefs spec1 (by decide)) (W2 m c) (W3 m c)
    (Pipeline.afterRegion_off (B1.dat (at_ (W2 m)) c) (W2 m c) (Pipeline.ucRefs τ sig))

set_option backward.isDefEq.respectTransparency.types false in
/-- Region 2. -/
def R2 : RegionSeg (pcfgs (F := F)) adm (pdats m) () defs₀ Variants.none lvL lvl 2 :=
  Pipeline.RegionSeg.ofHeldIn (pcfgs (F := F)) adm (pdats m) () defs₀ Variants.none lvL lvl 2 (fun _ => 0) (Pipeline.ucRefs τ sig)
    (fun c => iprop(∃ r, prngReg c r)) (fun c => iprop(∃ r, prngReg c r)) launch2.toP rfl
    (fun c => (B2.body_obligation (at_ (W3 m)) c).loose) (fun _ _ => rfl) (fun _ => rfl)
    (fun c => ((pdats m) 2 c).share_full fun _ => rfl)
    (fun c => B2.hin (at_ (W3 m)) c) (fun c => B2.hout (at_ (W3 m)) c) (fun _ => 0) (cut 2) (fun _ => iprop(emp)) (W3 m)
    (fun c w => B2.A_eq (at_ (W3 m)) c w)

theorem R2_pre (c : Dev nD) :
    iprop(StableHlo.held (c : Thread nD τ) (Pipeline.ucRefs τ sig) (W3 m c) ∗ rest c) ⊢ (R2 m).pre c := by
  show _ ⊢ iprop(StableHlo.held (c : Thread nD τ) (Pipeline.arrRefs (τ := τ) spec2) (W3 m c) ∗ (∃ r, prngReg c r)
    ∗ (StableHlo.held (c : Thread nD τ) (Pipeline.ucRefs τ sig \ Pipeline.arrRefs (τ := τ) spec2) (W3 m c) ∗ emp)
    ∗ ∃ Wd, owes (c : Thread nD τ) (0 : CellTallies nD τ sig Unit) Wd)
  exact enter c (Pipeline.arrRefs_sub_ucRefs spec2 (by decide)) (W3 m c)

theorem R2_post (c : Dev nD) :
    (R2 m).post c ⊢ iprop(StableHlo.held (c : Thread nD τ) (Pipeline.ucRefs τ sig) (W4 m c) ∗ rest c) := by
  show iprop(StableHlo.held (c : Thread nD τ) (Pipeline.arrRefs (τ := τ) spec2) (W4 m c) ∗ (∃ r, prngReg c r)
    ∗ (StableHlo.held (c : Thread nD τ) (Pipeline.ucRefs τ sig \ Pipeline.arrRefs (τ := τ) spec2) (W3 m c) ∗ emp)
    ∗ ∃ Wd, owes (c : Thread nD τ) (0 : CellTallies nD τ sig Unit) Wd) ⊢ _
  exact leave c (Pipeline.arrRefs_sub_ucRefs spec2 (by decide)) (W3 m c) (W4 m c)
    (Pipeline.afterRegion_off (B2.dat (at_ (W3 m)) c) (W3 m c) (Pipeline.ucRefs τ sig))

set_option backward.isDefEq.respectTransparency.types false in
/-- Region 3. -/
def R3 : RegionSeg (pcfgs (F := F)) adm (pdats m) () defs₀ Variants.none lvL lvl 3 :=
  Pipeline.RegionSeg.ofHeldIn (pcfgs (F := F)) adm (pdats m) () defs₀ Variants.none lvL lvl 3 (fun _ => 0) (Pipeline.ucRefs τ sig)
    (fun c => iprop(∃ r, prngReg c r)) (fun c => iprop(∃ r, prngReg c r)) launch3.toP rfl
    (fun c => (B3.body_obligation (at_ (W4 m)) c).loose) (fun _ _ => rfl) (fun _ => rfl)
    (fun c => ((pdats m) 3 c).share_full fun _ => rfl)
    (fun _ => .rfl) (fun _ => .rfl) (fun _ => 0) (cut 3) (fun _ => iprop(emp)) (W4 m)
    (fun c w => B3.A_eq (at_ (W4 m)) c w)

theorem R3_pre (c : Dev nD) :
    iprop(StableHlo.held (c : Thread nD τ) (Pipeline.ucRefs τ sig) (W4 m c) ∗ rest c) ⊢ (R3 m).pre c := by
  show _ ⊢ iprop(StableHlo.held (c : Thread nD τ) (Pipeline.arrRefs (τ := τ) spec3) (W4 m c) ∗ (∃ r, prngReg c r)
    ∗ (StableHlo.held (c : Thread nD τ) (Pipeline.ucRefs τ sig \ Pipeline.arrRefs (τ := τ) spec3) (W4 m c) ∗ emp)
    ∗ ∃ Wd, owes (c : Thread nD τ) (0 : CellTallies nD τ sig Unit) Wd)
  exact enter c (Pipeline.arrRefs_sub_ucRefs spec3 (by decide)) (W4 m c)

theorem R3_post (c : Dev nD) :
    (R3 m).post c ⊢ iprop(StableHlo.held (c : Thread nD τ) (Pipeline.ucRefs τ sig) (W5 m c) ∗ rest c) := by
  show iprop(StableHlo.held (c : Thread nD τ) (Pipeline.arrRefs (τ := τ) spec3) (W5 m c) ∗ (∃ r, prngReg c r)
    ∗ (StableHlo.held (c : Thread nD τ) (Pipeline.ucRefs τ sig \ Pipeline.arrRefs (τ := τ) spec3) (W4 m c) ∗ emp)
    ∗ ∃ Wd, owes (c : Thread nD τ) (0 : CellTallies nD τ sig Unit) Wd) ⊢ _
  exact leave c (Pipeline.arrRefs_sub_ucRefs spec3 (by decide)) (W4 m c) (W5 m c)
    (Pipeline.afterRegion_off (B3.dat (at_ (W4 m)) c) (W4 m c) (Pipeline.ucRefs τ sig))

set_option backward.isDefEq.respectTransparency.types false in
/-- Region 4. -/
def R4 : RegionSeg (pcfgs (F := F)) adm (pdats m) () defs₀ Variants.none lvL lvl 4 :=
  Pipeline.RegionSeg.ofHeldIn (pcfgs (F := F)) adm (pdats m) () defs₀ Variants.none lvL lvl 4 (fun _ => 0) (Pipeline.ucRefs τ sig)
    (fun c => iprop(∃ r, prngReg c r)) (fun c => iprop(∃ r, prngReg c r)) launch4.toP rfl
    (fun c => (B4.body_obligation (at_ (W5 m)) c).loose) (fun _ _ => rfl) (fun _ => rfl)
    (fun c => ((pdats m) 4 c).share_full fun _ => rfl)
    (fun c => B4.hin (at_ (W5 m)) c) (fun c => B4.hout (at_ (W5 m)) c) (fun _ => 0) (cut 4) (fun _ => iprop(emp)) (W5 m)
    (fun c w => B4.A_eq (at_ (W5 m)) c w)

theorem R4_pre (c : Dev nD) :
    iprop(StableHlo.held (c : Thread nD τ) (Pipeline.ucRefs τ sig) (W5 m c) ∗ rest c) ⊢ (R4 m).pre c := by
  show _ ⊢ iprop(StableHlo.held (c : Thread nD τ) (Pipeline.arrRefs (τ := τ) spec4) (W5 m c) ∗ (∃ r, prngReg c r)
    ∗ (StableHlo.held (c : Thread nD τ) (Pipeline.ucRefs τ sig \ Pipeline.arrRefs (τ := τ) spec4) (W5 m c) ∗ emp)
    ∗ ∃ Wd, owes (c : Thread nD τ) (0 : CellTallies nD τ sig Unit) Wd)
  exact enter c (Pipeline.arrRefs_sub_ucRefs spec4 (by decide)) (W5 m c)

theorem R4_post (c : Dev nD) :
    (R4 m).post c ⊢ iprop(StableHlo.held (c : Thread nD τ) (Pipeline.ucRefs τ sig) (W6 m c) ∗ rest c) := by
  show iprop(StableHlo.held (c : Thread nD τ) (Pipeline.arrRefs (τ := τ) spec4) (W6 m c) ∗ (∃ r, prngReg c r)
    ∗ (StableHlo.held (c : Thread nD τ) (Pipeline.ucRefs τ sig \ Pipeline.arrRefs (τ := τ) spec4) (W5 m c) ∗ emp)
    ∗ ∃ Wd, owes (c : Thread nD τ) (0 : CellTallies nD τ sig Unit) Wd) ⊢ _
  exact leave c (Pipeline.arrRefs_sub_ucRefs spec4 (by decide)) (W5 m c) (W6 m c)
    (Pipeline.afterRegion_off (B4.dat (at_ (W5 m)) c) (W5 m c) (Pipeline.ucRefs τ sig))

/-! ## The run -/

set_option backward.isDefEq.respectTransparency.types false in
/-- Every execution of the program ends, with every unscoped buffer at `W6` and every semaphore counter at zero. -/
theorem run_chain : θ_run defs (onTc (τ := τ) (main (F := F))) ⟨m, fun _ => 0, ρ⟩ (fun r =>
    (∀ (c : Dev nD), ∀ b ∈ Pipeline.ucRefs τ sig, r.2.mem ((c : Thread nD τ).1, b) = W6 m c b) ∧ r.2.sem = fun _ => 0) := by
  refine Pipeline.θ_run_regions_kit_dev_sems (pcfgs (F := F)) adm (pdats m) () cellOf_inj emb₁ defs₀ Variants.none lvL lvl m ρ main
    (segs m Variants.none lvL lvl (fun _ => rest) () (pdats m) (R0 m) (R1 m) (R2 m) (R3 m) (R4 m))
    (fun c Q => by
      rewrite [main_chain c, Seg.run_eq_chain,
        show (segs m Variants.none lvL lvl (fun _ => rest) () (pdats m) (R0 m) (R1 m) (R2 m) (R3 m) (R4 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [segs, Seg.pipes_host, Seg.pipes_region, Seg.pipes_nil]; decide) 0 lvL_tc
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W6 m c))
    (hch := fun c => ⟨.rfl, R0_pre m c, (R0_post m c).trans (R1_pre m c), (R1_post m c).trans (R2_pre m c),
      (R2_post m c).trans (R3_pre m c), (R3_post m c).trans (R4_pre m c), (R4_post m c).trans (sep_mono .rfl (by
        iintro ⟨HO, -, -⟩; iexact HO))⟩)
    (hinit := by
      refine Pipeline.initEach lvL lvl fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c : Thread nD τ).1, b) = W6 m c b)
    (hfin := fun c s' => by
      unfold StableHlo.held
      iintro ⟨Hh, HSI⟩
      ihave Hr := (pointsTo_read_all (Pipeline.ucRefs τ sig) (fun b => ((c : Thread nD τ).1, b)) (W6 m c) s') $$ [Hh HSI]
      · isplitl [Hh] <;> iassumption
      imodintro; iexact Hr)
    (hQ := fun _ h hz => ⟨h, funext fun g => hz g (.inr (regions_no_unscoped g.2))⟩)

/-! ## What each region keeps and leaves -/

/-- The cast writes its own result alone. -/
theorem W1_of (c : Dev nD) (r : Ref sig .tc) (h : r ∉ hostOps0_W) : W1 m c (Proc.devRef .tc r) = m ((c : Thread nD τ).loc r) :=
  V1_of m c r h
/-- Region 0 leaves in window `w`'s array what its pipeline computes. -/
theorem W2_arr (c : Dev nD) (w : Fin cfg0.W) :
    W2 m c (Proc.devRef .tc (Pipeline.arrRef spec0 w)) = (B0.dat (at_ (W1 m)) c).arrAt w cfg0.N :=
  Pipeline.afterRegion_arr (B0.dat (at_ (W1 m)) c) (W1 m c) launch0.win.arr_inj w
/-- Region 0 keeps every buffer that is no output window's array. -/
theorem W2_of (c : Dev nD) (r : Ref sig .tc) (h : ∀ w, Pipeline.arrRef spec0 w = r → (cfg0.win w).isOut = false) :
    W2 m c (Proc.devRef .tc r) = W1 m c (Proc.devRef .tc r) :=
  Pipeline.afterRegion_keeps (B0.dat (at_ (W1 m)) c) (W1 m c) launch0.win.arr_inj (B0.A_eq (at_ (W1 m)) c) r h
/-- Region 1 leaves in window `w`'s array what its pipeline computes. -/
theorem W3_arr (c : Dev nD) (w : Fin cfg1.W) :
    W3 m c (Proc.devRef .tc (Pipeline.arrRef spec1 w)) = (B1.dat (at_ (W2 m)) c).arrAt w cfg1.N :=
  Pipeline.afterRegion_arr (B1.dat (at_ (W2 m)) c) (W2 m c) launch1.win.arr_inj w
/-- Region 1 keeps every buffer that is no output window's array. -/
theorem W3_of (c : Dev nD) (r : Ref sig .tc) (h : ∀ w, Pipeline.arrRef spec1 w = r → (cfg1.win w).isOut = false) :
    W3 m c (Proc.devRef .tc r) = W2 m c (Proc.devRef .tc r) :=
  Pipeline.afterRegion_keeps (B1.dat (at_ (W2 m)) c) (W2 m c) launch1.win.arr_inj (B1.A_eq (at_ (W2 m)) c) r h
/-- Region 2 leaves in window `w`'s array what its pipeline computes. -/
theorem W4_arr (c : Dev nD) (w : Fin cfg2.W) :
    W4 m c (Proc.devRef .tc (Pipeline.arrRef spec2 w)) = (B2.dat (at_ (W3 m)) c).arrAt w cfg2.N :=
  Pipeline.afterRegion_arr (B2.dat (at_ (W3 m)) c) (W3 m c) launch2.win.arr_inj w
/-- Region 2 keeps every buffer that is no output window's array. -/
theorem W4_of (c : Dev nD) (r : Ref sig .tc) (h : ∀ w, Pipeline.arrRef spec2 w = r → (cfg2.win w).isOut = false) :
    W4 m c (Proc.devRef .tc r) = W3 m c (Proc.devRef .tc r) :=
  Pipeline.afterRegion_keeps (B2.dat (at_ (W3 m)) c) (W3 m c) launch2.win.arr_inj (B2.A_eq (at_ (W3 m)) c) r h
/-- Region 3 leaves in window `w`'s array what its pipeline computes. -/
theorem W5_arr (c : Dev nD) (w : Fin cfg3.W) :
    W5 m c (Proc.devRef .tc (Pipeline.arrRef spec3 w)) = (B3.dat (at_ (W4 m)) c).arrAt w cfg3.N :=
  Pipeline.afterRegion_arr (B3.dat (at_ (W4 m)) c) (W4 m c) launch3.win.arr_inj w
/-- Region 3 keeps every buffer that is no output window's array. -/
theorem W5_of (c : Dev nD) (r : Ref sig .tc) (h : ∀ w, Pipeline.arrRef spec3 w = r → (cfg3.win w).isOut = false) :
    W5 m c (Proc.devRef .tc r) = W4 m c (Proc.devRef .tc r) :=
  Pipeline.afterRegion_keeps (B3.dat (at_ (W4 m)) c) (W4 m c) launch3.win.arr_inj (B3.A_eq (at_ (W4 m)) c) r h
/-- Region 4 leaves in window `w`'s array what its pipeline computes. -/
theorem W6_arr (c : Dev nD) (w : Fin cfg4.W) :
    W6 m c (Proc.devRef .tc (Pipeline.arrRef spec4 w)) = (B4.dat (at_ (W5 m)) c).arrAt w cfg4.N :=
  Pipeline.afterRegion_arr (B4.dat (at_ (W5 m)) c) (W5 m c) launch4.win.arr_inj w
/-- Region 4 keeps every buffer that is no output window's array. -/
theorem W6_of (c : Dev nD) (r : Ref sig .tc) (h : ∀ w, Pipeline.arrRef spec4 w = r → (cfg4.win w).isOut = false) :
    W6 m c (Proc.devRef .tc r) = W5 m c (Proc.devRef .tc r) :=
  Pipeline.afterRegion_keeps (B4.dat (at_ (W5 m)) c) (W5 m c) launch4.win.arr_inj (B4.A_eq (at_ (W5 m)) c) r h

/-- An argument array, which no item writes, ends as launched. -/
theorem W6_arg (c : Dev nD) (r : Ref sig .tc) (h : r ∉ hostOps0_W)
    (h0 : ∀ w, Pipeline.arrRef spec0 w = r → (cfg0.win w).isOut = false)
    (h1 : ∀ w, Pipeline.arrRef spec1 w = r → (cfg1.win w).isOut = false)
    (h2 : ∀ w, Pipeline.arrRef spec2 w = r → (cfg2.win w).isOut = false)
    (h3 : ∀ w, Pipeline.arrRef spec3 w = r → (cfg3.win w).isOut = false)
    (h4 : ∀ w, Pipeline.arrRef spec4 w = r → (cfg4.win w).isOut = false)
    : W6 m c (Proc.devRef .tc r) = m ((c : Thread nD τ).loc r) :=
  (W6_of m c r h4).trans ((W5_of m c r h3).trans ((W4_of m c r h2).trans ((W3_of m c r h1).trans ((W2_of m c r h0).trans (W1_of m c r h)))))

/-- Every execution ends with each argument array as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (W6_arg m c main_arg0 (by decide) (by decide) (by decide) (by decide) (by decide) (by decide)),
      (h.1 c (Proc.devRef .tc main_arg1) (Finset.mem_filter.mpr ⟨StableHlo.devRef_mem_tcRefs main_arg1, by decide⟩)).trans (W6_arg m c main_arg1 (by decide) (by decide) (by decide) (by decide) (by decide) (by decide)),
      (h.1 c (Proc.devRef .tc main_arg2) (Finset.mem_filter.mpr ⟨StableHlo.devRef_mem_tcRefs main_arg2, by decide⟩)).trans (W6_arg m c main_arg2 (by decide) (by decide) (by decide) (by decide) (by decide) (by decide)),
      (h.1 c (Proc.devRef .tc main_arg3) (Finset.mem_filter.mpr ⟨StableHlo.devRef_mem_tcRefs main_arg3, by decide⟩)).trans (W6_arg m c main_arg3 (by decide) (by decide) (by decide) (by decide) (by decide) (by decide)),
      (h.1 c (Proc.devRef .tc main_arg4) (Finset.mem_filter.mpr ⟨StableHlo.devRef_mem_tcRefs main_arg4, by decide⟩)).trans (W6_arg m c main_arg4 (by decide) (by decide) (by decide) (by decide) (by decide) (by decide)),
      (h.1 c (Proc.devRef .tc main_arg5) (Finset.mem_filter.mpr ⟨StableHlo.devRef_mem_tcRefs main_arg5, by decide⟩)).trans (W6_arg m c main_arg5 (by decide) (by decide) (by decide) (by decide) (by decide) (by decide)),
      (h.1 c (Proc.devRef .tc main_arg6) (Finset.mem_filter.mpr ⟨StableHlo.devRef_mem_tcRefs main_arg6, by decide⟩)).trans (W6_arg m c main_arg6 (by decide) (by decide) (by decide) (by decide) (by decide) (by decide)),
      (h.1 c (Proc.devRef .tc main_arg7) (Finset.mem_filter.mpr ⟨StableHlo.devRef_mem_tcRefs main_arg7, by decide⟩)).trans (W6_arg m c main_arg7 (by decide) (by decide) (by decide) (by decide) (by decide) (by decide)),
      (h.1 c (Proc.devRef .tc main_arg8) (Finset.mem_filter.mpr ⟨StableHlo.devRef_mem_tcRefs main_arg8, by decide⟩)).trans (W6_arg m c main_arg8 (by decide) (by decide) (by decide) (by decide) (by decide) (by decide)),
      (h.1 c (Proc.devRef .tc main_arg9) (Finset.mem_filter.mpr ⟨StableHlo.devRef_mem_tcRefs main_arg9, by decide⟩)).trans (W6_arg m c main_arg9 (by decide) (by decide) (by decide) (by decide) (by decide) (by decide))⟩, h.2⟩) (run_chain m ρ)

end Cert.Proof.BChain

end
-- ==== Proof.Spec.lean ====
module

public import proofs.«01_k».proof.Proof.Gen.KernelIdeal.Skeleton
public import Idealize.ShloMosaic.Lib.Pointwise

/-! What the arrays of the program hold, as functions of one another, in plain sums over whole axes. -/

set_option maxRecDepth 16384

@[expose] public section

noncomputable section

open Idealize.ShloMosaic

namespace Cert.Proof.Spec
open Cert.KernelIdeal

/-- Token rows times router columns, with the scale of the token and the scale of the column. -/
def logit (X : FVec Ideal S6x3072x5120 .fp8e4m3) (C : FVec Ideal S6x3072 .f32) (P : FVec Ideal S5120x1280 .fp8e4m3)
    (Q : FVec Ideal S1x1280 .f32) : FVec Ideal S6x3072x1280 .f32 := fun j =>
  (∑ k : Fin 5120, X (ix3 (j 0) (j 1) k) * P (ix2 k (j 2))) * C (ix2 (j 0) (j 1)) * Q (ix2 0 (j 2))

/-- Token rows times slot rows of one batch entry, with the scale of the token and the scale of the slot. -/
def score {φ ψ : FTy} (A : FVec Ideal S6x3072x5120 φ) (B : FVec Ideal S6x1280x5120 ψ) (C : FVec Ideal S6x3072 .f32)
    (D : FVec Ideal S6x1280 .f32) : FVec Ideal S6x3072x1280 .f32 := fun j =>
  (∑ k : Fin 5120, A (ix3 (j 0) (j 1) k) * B (ix3 (j 0) (j 2) k)) * C (ix2 (j 0) (j 1)) * D (ix2 (j 0) (j 2))

/-- The softmax along the slots. -/
def comb (L : FVec Ideal S6x3072x1280 .f32) : FVec Ideal S6x3072x1280 .f32 := fun j =>
  Ideal.exp (L j - Finset.univ.fold max (Ideal.ofBits .f32 0xFF800000#32) fun k : Fin 1280 => L (ix3 (j 0) (j 1) k))
    * Ideal.div 1 (∑ s : Fin 1280, Ideal.exp (L (ix3 (j 0) (j 1) s)
        - Finset.univ.fold max (Ideal.ofBits .f32 0xFF800000#32) fun k : Fin 1280 => L (ix3 (j 0) (j 1) k)))

/-- The gradient through the softmax along the slots. -/
def rowGrad (L G : FVec Ideal S6x3072x1280 .f32) : FVec Ideal S6x3072x1280 .f32 := fun j =>
  comb L j * (G j - ∑ s : Fin 1280, comb L (ix3 (j 0) (j 1) s) * G (ix3 (j 0) (j 1) s))

/-- The softmax along the tokens, read off the column maxima and sums held in `T`. -/
def disp (L : FVec Ideal S6x3072x1280 .f32) (T : FVec Ideal S6x8x1280 .f32) : FVec Ideal S6x3072x1280 .f32 := fun j =>
  Ideal.exp (L j - T (ix3 (j 0) 0 (j 2))) * Ideal.div 1 (T (ix3 (j 0) 1 (j 2)))

/-- The gradient of the logits, the column part read off `T`. -/
def dlog (L E G : FVec Ideal S6x3072x1280 .f32) (T : FVec Ideal S6x8x1280 .f32) : FVec Ideal S6x3072x1280 .f32 := fun j =>
  rowGrad L G j + disp L T j * (E j - T (ix3 (j 0) 2 (j 2)) * Ideal.div 1 (T (ix3 (j 0) 1 (j 2))))

end Cert.Proof.Spec

end
end
-- ==== Proof.Rows.lean ====
module

public import proofs.«01_k».proof.Proof.Gen.KernelIdeal.Skeleton
public import Idealize.ShloMosaic.Lib.Pipeline.FrameBody
public import Idealize.ShloMosaic.Lib.Pipeline.ValueKit
public import Idealize.ShloMosaic.Lib.Pointwise

/-! The block of column statistics is written row by row: what a row reads after a list of such writes. -/

@[expose] public section

noncomputable section

open Idealize.ShloMosaic

namespace Cert.Proof.Rows
open Cert.KernelIdeal

variable {sig : RefSig} {κ : Kind} {sp : Space} (v : View sig κ sp S1x8x1280 .f32)

/-- The rectangle of one row lands on that row; -/
theorem emb_row {r : ℕ} (inb : ∀ a, (![0, r, 0] : Fin 3 → ℕ) a + (![1, 1, 1280] : Fin 3 → ℕ) a ≤ S1x8x1280.size a)
    (i : Fin 8) (h : i.val = r) (s : Fin 1280) :
    (Rect.unit (s := S1x8x1280) ![0, r, 0] ![1, 1, 1280] inb).emb (ix3 0 0 s) = (ix3 0 i s : S1x8x1280.Idx) := by
  subst h
  funext a; refine Fin.ext ?_
  fin_cases a <;> simp [Rect.emb, Rect.unit]

/-- and on no other. -/
theorem not_mem_row {r : ℕ} (inb : ∀ a, (![0, r, 0] : Fin 3 → ℕ) a + (![1, 1, 1280] : Fin 3 → ℕ) a ≤ S1x8x1280.size a)
    (i : Fin 8) (h : i.val ≠ r) (s : Fin 1280) :
    (ix3 0 i s : S1x8x1280.Idx) ∉ (Rect.unit (s := S1x8x1280) ![0, r, 0] ![1, 1, 1280] inb).set := by
  rw [Rect.mem_set_unit]
  intro hm
  have := hm 1
  simp at this
  omega

theorem emb_tail (inb : ∀ a, (![0, 1, 0] : Fin 3 → ℕ) a + (![1, 7, 1280] : Fin 3 → ℕ) a ≤ S1x8x1280.size a)
    (i : Fin 8) (k : Fin 7) (h : i.val = 1 + k.val) (s : Fin 1280) :
    (Rect.unit (s := S1x8x1280) ![0, 1, 0] ![1, 7, 1280] inb).emb (ix3 0 k s) = (ix3 0 i s : S1x8x1280.Idx) := by
  funext a; refine Fin.ext ?_
  fin_cases a <;> simp [Rect.emb, Rect.unit, h]

theorem not_mem_tail (inb : ∀ a, (![0, 1, 0] : Fin 3 → ℕ) a + (![1, 7, 1280] : Fin 3 → ℕ) a ≤ S1x8x1280.size a) (s : Fin 1280) :
    (ix3 0 0 s : S1x8x1280.Idx) ∉ (Rect.unit (s := S1x8x1280) ![0, 1, 0] ![1, 7, 1280] inb).set := by
  rw [Rect.mem_set_unit]
  intro hm
  have := hm 1
  simp at this

/-- The last write of a row is what the row holds; a write elsewhere is passed over. -/
theorem canon_hit {r : ℕ} (inb : ∀ a, (![0, r, 0] : Fin 3 → ℕ) a + (![1, 1, 1280] : Fin 3 → ℕ) a ≤ S1x8x1280.size a)
    (w : S1x1x1280.Idx → Elt Ideal .f32) (L : List (View.Piece (Elt Ideal) S1x8x1280 .f32)) (i : Fin 8) (h : i.val = r) (s : Fin 1280) :
    View.canon ((⟨Rect.unit (s := S1x8x1280) ![0, r, 0] ![1, 1, 1280] inb, w⟩ : View.Piece (Elt Ideal) S1x8x1280 .f32) :: L) (ix3 0 i s) = w (ix3 0 0 s) := by
  have := View.canon_cons_emb (Val := Elt Ideal) (e := .f32) (Rect.unit (s := S1x8x1280) ![0, r, 0] ![1, 1, 1280] inb) w L (ix3 0 0 s)
  rwa [emb_row inb i h s] at this

theorem canon_miss {r : ℕ} (inb : ∀ a, (![0, r, 0] : Fin 3 → ℕ) a + (![1, 1, 1280] : Fin 3 → ℕ) a ≤ S1x8x1280.size a)
    (w : S1x1x1280.Idx → Elt Ideal .f32) (L : List (View.Piece (Elt Ideal) S1x8x1280 .f32)) (i : Fin 8) (h : i.val ≠ r) (s : Fin 1280) :
    View.canon ((⟨Rect.unit (s := S1x8x1280) ![0, r, 0] ![1, 1, 1280] inb, w⟩ : View.Piece (Elt Ideal) S1x8x1280 .f32) :: L) (ix3 0 i s) = View.canon L (ix3 0 i s) :=
  View.canon_cons_of_not_mem _ L (not_mem_row inb i h s)

theorem canon_tail (inb : ∀ a, (![0, 1, 0] : Fin 3 → ℕ) a + (![1, 7, 1280] : Fin 3 → ℕ) a ≤ S1x8x1280.size a)
    (w : S1x7x1280.Idx → Elt Ideal .f32) (L : List (View.Piece (Elt Ideal) S1x8x1280 .f32)) (i : Fin 8) (k : Fin 7) (h : i.val = 1 + k.val) (s : Fin 1280) :
    View.canon ((⟨Rect.unit (s := S1x8x1280) ![0, 1, 0] ![1, 7, 1280] inb, w⟩ : View.Piece (Elt Ideal) S1x8x1280 .f32) :: L) (ix3 0 i s) = w (ix3 0 k s) := by
  have := View.canon_cons_emb (Val := Elt Ideal) (e := .f32) (Rect.unit (s := S1x8x1280) ![0, 1, 0] ![1, 7, 1280] inb) w L (ix3 0 k s)
  rwa [emb_tail inb i k h s] at this

theorem canon_tail_miss (inb : ∀ a, (![0, 1, 0] : Fin 3 → ℕ) a + (![1, 7, 1280] : Fin 3 → ℕ) a ≤ S1x8x1280.size a)
    (w : S1x7x1280.Idx → Elt Ideal .f32) (L : List (View.Piece (Elt Ideal) S1x8x1280 .f32)) (s : Fin 1280) :
    View.canon ((⟨Rect.unit (s := S1x8x1280) ![0, 1, 0] ![1, 7, 1280] inb, w⟩ : View.Piece (Elt Ideal) S1x8x1280 .f32) :: L) (ix3 0 0 s) = View.canon L (ix3 0 0 s) :=
  View.canon_cons_of_not_mem _ L (not_mem_tail inb s)

theorem read_hit {r : ℕ} (inb : ∀ a, (![0, r, 0] : Fin 3 → ℕ) a + (![1, 1, 1280] : Fin 3 → ℕ) a ≤ S1x8x1280.size a) (f)
    (w : S1x1x1280.Idx → Elt Ideal .f32) (L : List (View.Piece (Elt Ideal) S1x8x1280 .f32)) (i : Fin 8) (h : i.val = r) (s : Fin 1280) :
    v.read (Elt Ideal) (v.writes (Elt Ideal) f ((⟨Rect.unit (s := S1x8x1280) ![0, r, 0] ![1, 1, 1280] inb, w⟩ : View.Piece (Elt Ideal) S1x8x1280 .f32) :: L)) (ix3 0 i s) = w (ix3 0 0 s) := by
  have := View.read_writes_cons_emb (Val := Elt Ideal) v f (Rect.unit (s := S1x8x1280) ![0, r, 0] ![1, 1, 1280] inb) w L (ix3 0 0 s)
  rwa [emb_row inb i h s] at this

theorem read_miss {r : ℕ} (inb : ∀ a, (![0, r, 0] : Fin 3 → ℕ) a + (![1, 1, 1280] : Fin 3 → ℕ) a ≤ S1x8x1280.size a) (f)
    (w : S1x1x1280.Idx → Elt Ideal .f32) (L : List (View.Piece (Elt Ideal) S1x8x1280 .f32)) (i : Fin 8) (h : i.val ≠ r) (s : Fin 1280) :
    v.read (Elt Ideal) (v.writes (Elt Ideal) f ((⟨Rect.unit (s := S1x8x1280) ![0, r, 0] ![1, 1, 1280] inb, w⟩ : View.Piece (Elt Ideal) S1x8x1280 .f32) :: L)) (ix3 0 i s)
      = v.read (Elt Ideal) (v.writes (Elt Ideal) f L) (ix3 0 i s) := by
  rw [View.writes_cons]
  exact View.read_slice_write_of_not_mem _ _ _ _ (by rw [Rect.map_emb_univ]; exact not_mem_row inb i h s)

/-- A load of a row after a list of writes. -/
theorem load_row {r : ℕ} (inb : ∀ a, (![0, r, 0] : Fin 3 → ℕ) a + (![1, 1, 1280] : Fin 3 → ℕ) a ≤ S1x8x1280.size a)
    (L : List (View.Piece (Elt Ideal) S1x8x1280 .f32)) (i : Fin 8) (h : i.val = r) (s : Fin 1280) :
    v.readCov L (Rect.unit (s := S1x8x1280) ![0, r, 0] ![1, 1, 1280] inb).toLoadRect (ix3 0 0 s) = View.canon L (ix3 0 i s) := by
  rw [View.readCov_eq_canon', ← emb_row inb i h s]; rfl

end Cert.Proof.Rows

end
end
-- ==== Proof.Online.lean ====
module

public import Idealize.ShloMosaic.Lib.Pointwise

/-! The exponentials of a column, rescaled as its maximum grows: facts about the extended reals. -/

@[expose] public section

noncomputable section

open Idealize.ShloMosaic

namespace Cert.Proof.Online

theorem exp_bot : Ideal.exp ⊥ = 0 := rfl
theorem exp_top : Ideal.exp ⊤ = ⊤ := rfl
theorem exp_coe (r : ℝ) : Ideal.exp (r : EReal) = (Real.exp r : EReal) := rfl

theorem exp_nonneg (x : EReal) : 0 ≤ Ideal.exp x := by
  induction x with
  | bot => rw [exp_bot]
  | top => rw [exp_top]; exact le_top
  | coe r => rw [exp_coe]; exact_mod_cast (Real.exp_pos r).le

/-- Below the maximum the exponential is a real number. -/
theorem exp_ne_top {x m : EReal} (h : x ≤ m) : Ideal.exp (x - m) ≠ ⊤ := by
  induction m with
  | top => simp [exp_bot]
  | bot => obtain rfl := le_bot_iff.mp h; simp [exp_bot]
  | coe m =>
    induction x with
    | top => exact absurd h (by simp)
    | bot => simp [exp_bot]
    | coe x => rw [← EReal.coe_sub, exp_coe]; exact EReal.coe_ne_top _

/-- Rescaling from one maximum to a larger one. -/
theorem exp_rescale {x m n : EReal} (h : x ≤ m) (h' : m ≤ n) :
    Ideal.exp (x - m) * Ideal.exp (m - n) = Ideal.exp (x - n) := by
  induction n with
  | top => simp [exp_bot]
  | bot =>
    obtain rfl := le_bot_iff.mp h'
    obtain rfl := le_bot_iff.mp h
    simp [exp_bot]
  | coe n =>
    induction m with
    | top => exact absurd h' (by simp)
    | bot => obtain rfl := le_bot_iff.mp h; simp [exp_bot]
    | coe m =>
      induction x with
      | top => exact absurd h (by simp)
      | bot => simp [exp_bot]
      | coe x =>
        rw [← EReal.coe_sub, ← EReal.coe_sub, ← EReal.coe_sub, exp_coe, exp_coe, exp_coe, ← EReal.coe_mul, ← Real.exp_add]
        congr 2
        ring

theorem sum_mul {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem inv_ne_top {z : EReal} (hz : z ≠ 0) : z⁻¹ ≠ ⊤ := by
  induction z with
  | bot => simp
  | top => simp
  | coe r => rw [← EReal.coe_inv]; exact EReal.coe_ne_top _

/-- A weighted sum over nonnegative weights, normalised before or after the summation. -/
theorem sum_normalised {ι : Type} (s : Finset ι) (p d : ι → EReal) (hp : ∀ i, 0 ≤ p i) :
    (∑ i ∈ s, p i * d i) * Ideal.div 1 (∑ i ∈ s, p i) = ∑ i ∈ s, p i * Ideal.div 1 (∑ i ∈ s, p i) * d i := by
  by_cases hz : ∑ i ∈ s, p i = 0
  · have h0 : ∀ i ∈ s, p i = 0 := (Finset.sum_eq_zero_iff_of_nonneg fun i _ => hp i).mp hz
    rw [Finset.sum_eq_zero fun i hi => by rw [h0 i hi, zero_mul], zero_mul]
    exact (Finset.sum_eq_zero fun i hi => by rw [h0 i hi, zero_mul, zero_mul]).symm
  · have hpos : 0 ≤ ∑ i ∈ s, p i := Finset.sum_nonneg fun i _ => hp i
    have hdiv : Ideal.div 1 (∑ i ∈ s, p i) = (∑ i ∈ s, p i)⁻¹ := by simp [Ideal.div, hz]
    rw [hdiv, sum_mul s _ (EReal.inv_nonneg_of_nonneg hpos) (inv_ne_top hz)]
    exact Finset.sum_congr rfl fun i _ => by rw [mul_right_comm]

/-- The word the maxima start from. -/
theorem neg_inf : Ideal.ofBits .f32 0xFF800000#32 = (⊥ : EReal) := by simp [Ideal.ofBits, Ideal.ieee]

theorem fold_max {ι : Type} (s : Finset ι) (f : ι → EReal) :
    s.fold max (Ideal.ofBits .f32 0xFF800000#32) f = s.sup f := by
  rw [neg_inf]; rfl

section
variable {T : ℕ} (l d : ℕ → Fin T → EReal)

/-- The maximum, the sum of exponentials and the weighted sum of exponentials of the first `n` tiles. -/
def peak (n : ℕ) : EReal := (Finset.range n).sup fun j => Finset.univ.sup (l j)
def mass (n : ℕ) : EReal := ∑ j ∈ Finset.range n, ∑ i, Ideal.exp (l j i - peak l n)
def pull (n : ℕ) : EReal := ∑ j ∈ Finset.range n, ∑ i, Ideal.exp (l j i - peak l n) * d j i

theorem peak_zero : peak l 0 = ⊥ := rfl
theorem mass_zero : mass l 0 = 0 := rfl
theorem pull_zero : pull l d 0 = 0 := rfl

theorem peak_succ (n : ℕ) : max (peak l n) (Finset.univ.sup (l n)) = peak l (n + 1) := by
  rw [peak, peak, Finset.range_add_one, Finset.sup_insert]; exact max_comm _ _

theorem le_peak {n j : ℕ} (hj : j < n) (i : Fin T) : l j i ≤ peak l n :=
  (Finset.le_sup (f := l j) (Finset.mem_univ i)).trans
    (Finset.le_sup (f := fun j => Finset.univ.sup (l j)) (Finset.mem_range.mpr hj))

theorem peak_mono (n : ℕ) : peak l n ≤ peak l (n + 1) := by rw [← peak_succ]; exact le_max_left _ _

theorem mass_succ (n : ℕ) : mass l n * Ideal.exp (peak l n - peak l (n + 1)) + ∑ i, Ideal.exp (l n i - peak l (n + 1))
    = mass l (n + 1) := by
  conv_rhs => rw [mass, Finset.sum_range_succ]
  rw [mass, sum_mul _ _ (exp_nonneg _) (exp_ne_top (peak_mono l n))]
  refine congrArg (· + _) (Finset.sum_congr rfl fun j hj => ?_)
  rw [sum_mul _ _ (exp_nonneg _) (exp_ne_top (peak_mono l n))]
  exact Finset.sum_congr rfl fun i _ => exp_rescale (le_peak l (Finset.mem_range.mp hj) i) (peak_mono l n)

theorem pull_succ (n : ℕ) : pull l d n * Ideal.exp (peak l n - peak l (n + 1))
    + ∑ i, Ideal.exp (l n i - peak l (n + 1)) * d n i = pull l d (n + 1) := by
  conv_rhs => rw [pull, Finset.sum_range_succ]
  rw [pull, sum_mul _ _ (exp_nonneg _) (exp_ne_top (peak_mono l n))]
  refine congrArg (· + _) (Finset.sum_congr rfl fun j hj => ?_)
  rw [sum_mul _ _ (exp_nonneg _) (exp_ne_top (peak_mono l n))]
  exact Finset.sum_congr rfl fun i _ => by
    rw [mul_right_comm, exp_rescale (le_peak l (Finset.mem_range.mp hj) i) (peak_mono l n)]

end

/-- Six tiles of 512 are the whole column. -/
theorem sum_column (f : Fin 3072 → EReal) (g : ℕ → Fin 512 → EReal)
    (h : ∀ (j : Fin 6) (i : Fin 512), g j i = f ⟨j.val * 512 + i.val, by omega⟩) :
    ∑ j ∈ Finset.range 6, ∑ i, g j i = ∑ k, f k := by
  rw [Finset.sum_range, Fin.sum_univ_tiles 6 512 rfl f]
  exact Finset.sum_congr rfl fun j _ => Finset.sum_congr rfl fun i _ => h j i

theorem sup_column (f : Fin 3072 → EReal) (g : ℕ → Fin 512 → EReal)
    (h : ∀ (j : Fin 6) (i : Fin 512), g j i = f ⟨j.val * 512 + i.val, by omega⟩) :
    peak g 6 = Finset.univ.sup f := by
  refine le_antisymm (Finset.sup_le fun j hj => Finset.sup_le fun i _ => ?_) (Finset.sup_le fun k _ => ?_)
  · rw [h ⟨j, Finset.mem_range.mp hj⟩ i]; exact Finset.le_sup (f := f) (Finset.mem_univ _)
  · have hk := h ⟨k.val / 512, by omega⟩ ⟨k.val % 512, by omega⟩
    have e : (⟨k.val / 512 * 512 + k.val % 512, by omega⟩ : Fin 3072) = k := Fin.ext (by simp; omega)
    rw [e] at hk
    rw [← hk]
    exact le_peak g (by show k.val / 512 < 6; omega) _

/-- On real numbers the product with the reciprocal is the quotient. -/
theorem div_eq_mul (x z : ℝ) (hz : z ≠ 0) : Ideal.div (x : EReal) z = (x : EReal) * Ideal.div 1 (z : EReal) := by
  have : (z : EReal) ≠ 0 := by exact_mod_cast hz
  simp [Ideal.div, this]

/-- Of a row of real numbers the softmax by the reciprocal of the sum is the softmax by the quotient. -/
theorem softmax_quotient {n : ℕ} (L : Fin n → EReal) (h : ∀ k, ∃ x : ℝ, L k = x) (j : Fin n) :
    Ideal.exp (L j - Finset.univ.fold max (Ideal.ofBits .f32 0xFF800000#32) L)
        * Ideal.div 1 (∑ k, Ideal.exp (L k - Finset.univ.fold max (Ideal.ofBits .f32 0xFF800000#32) L))
      = Ideal.div (Ideal.exp (L j - Finset.univ.fold max (Ideal.ofBits .f32 0xFF800000#32) L))
          (∑ k, Ideal.exp (L k - Finset.univ.fold max (Ideal.ofBits .f32 0xFF800000#32) L)) := by
  choose x hx using h
  obtain ⟨i, -, hi⟩ := Finset.exists_mem_eq_sup Finset.univ ⟨j, Finset.mem_univ j⟩ L
  have he : ∀ k, Ideal.exp (L k - L i) = (Real.exp (x k - x i) : EReal) := fun k => by
    rw [hx k, hx i, ← EReal.coe_sub, exp_coe]
  have hs : ∑ k, (Real.exp (x k - x i) : EReal) = ((∑ k, Real.exp (x k - x i) : ℝ) : EReal) :=
    (map_sum (⟨⟨Real.toEReal, EReal.coe_zero⟩, EReal.coe_add⟩ : ℝ →+ EReal) _ _).symm
  rw [fold_max, hi]
  simp only [he]
  rw [hs]
  exact (div_eq_mul _ _ (Finset.sum_pos (fun k _ => Real.exp_pos _) ⟨j, Finset.mem_univ j⟩).ne').symm

end Cert.Proof.Online

end
end
-- ==== Proof.V0.lean ====
module

public import proofs.«01_k».proof.Proof.K0
public import proofs.«01_k».proof.Proof.Spec
public import proofs.«01_k».proof.Proof.Rows
public import proofs.«01_k».proof.Proof.Online
public import Idealize.ShloMosaic.Lib.Pipeline.ValueKit
public import Idealize.ShloMosaic.Lib.Pipeline.ReadBack
public import Idealize.ShloMosaic.Lib.Pointwise

/-! The statistics call: logits, dispatch scores, and the running column statistics. -/

set_option maxRecDepth 16384

@[expose] public section

noncomputable section

open Idealize.ShloMosaic Idealize.ShloMosaic.TcCoe Idealize.SL.Sem
open Idealize.ShloMosaic.Pipeline (Dat)

namespace Cert.Proof.V0
open Cert.KernelIdeal Cert.KernelIdeal.Gen Cert.Proof.K0 Cert.Proof.Spec Cert.Proof.Rows Cert.Proof.Online

variable (V : (c : Dev nD) → (b : Ref sig .tc) → Buf (Elt Ideal) ((c : Thread nD τ).loc b))

/-- Where the windows stand at a grid point. -/
theorem idx : ∀ t : Fin cfg0.N, win0_0.index t = ![t.val / 6, t.val % 6, 0] ∧ win0_1.index t = ![0, 0]
    ∧ win0_2.index t = ![t.val / 6, 0, 0] ∧ win0_3.index t = ![0, 0] ∧ win0_4.index t = ![0, 0] ∧ win0_5.index t = ![0, 0]
    ∧ win0_6.index t = ![t.val / 6, t.val % 6, 0] ∧ win0_7.index t = ![t.val / 6, t.val % 6, 0]
    ∧ win0_8.index t = ![t.val / 6, 0, 0] := (by decide +kernel : ∀ t : Fin grid0.N, _)

/-- Where the rows of scales are read at a grid point. -/
theorem off1 : ∀ t : Fin cfg0.N, k0_off1 (grid0.coords t) = ![t.val / 6, t.val % 6 * 512] :=
  (by decide +kernel : ∀ t : Fin grid0.N, _)
theorem off2 : ∀ t : Fin cfg0.N, k0_off2 (grid0.coords t) = ![t.val / 6, 0] :=
  (by decide +kernel : ∀ t : Fin grid0.N, _)

/-- The logits and the dispatch scores of the entry contents. -/
def LG (c : Dev nD) : FVec Ideal S6x3072x1280 .f32 :=
  logit (V c main_arg0) (V c main_arg1) (V c main_arg2) (V c main_v0)
def DD (c : Dev nD) : FVec Ideal S6x3072x1280 .f32 :=
  score (φ := .fp8e4m3) (ψ := .fp8e5m2) (V c main_arg0) (V c main_arg8) (V c main_arg1) (V c main_arg9)

theorem final6 (c : Dev nD) : (dat V c).arrAt 6 cfg0.N = LG V c := by
  refine (dat V c).arrAt_eq_of_covers 6 _ (by decide +kernel) fun t _ y => ?_
  blk_simp; rw [after0_6]
  by_cases h0 : t.val % 6 = 0
  · rw [outsAt0_A V c t h0]; frame_out
    pointwise [k0_pay4, k0_pay3, k0_pay2, k0_pay1, LG, logit]
    blk_point [iblk, idx t, off1 t, off2 t]
  · rw [outsAt0_B V c t h0]; frame_out
    pointwise [k0_pay4, k0_pay3, k0_pay2, k0_pay1, LG, logit]
    blk_point [iblk, idx t, off1 t, off2 t]

theorem final7 (c : Dev nD) : (dat V c).arrAt 7 cfg0.N = DD V c := by
  refine (dat V c).arrAt_eq_of_covers 7 _ (by decide +kernel) fun t _ y => ?_
  blk_simp; rw [after0_7]
  by_cases h0 : t.val % 6 = 0
  · rw [outsAt0_A V c t h0]; frame_out
    pointwise [k0_pay6, k0_pay5, k0_pay2, k0_pay1, DD, score]
    blk_point [iblk, idx t, off1 t, off2 t]
  · rw [outsAt0_B V c t h0]; frame_out
    pointwise [k0_pay6, k0_pay5, k0_pay2, k0_pay1, DD, score]
    blk_point [iblk, idx t, off1 t, off2 t]

/-- Column `s` of batch entry `b`, cut into the tiles the grid walks. -/
def tile (A : FVec Ideal S6x3072x1280 .f32) (b : Fin 6) (s : Fin 1280) : ℕ → Fin 512 → EReal := fun j i =>
  A (ix3 b ⟨j % 6 * 512 + i.val, by omega⟩ s)

/-- One tile's step of the maximum, -/
theorem step_peak (v : FVec Ideal S512x1280 .f32) (m : FVec Ideal S1x1x1280 .f32) (l : ℕ → Fin 512 → EReal) (n : ℕ) (s : Fin 1280)
    (hv : ∀ i, v (ix2 i s) = l n i) (hm : m (ix3 0 0 s) = peak l n) :
    k0_pay13 (F := Ideal) v m (ix3 0 0 s) = peak l (n + 1) := by
  pointwise [k0_pay13, k0_pay10, k0_pay9]
  rw [fold_max, hm, ← peak_succ]
  simp only [hv]

/-- of the sum of exponentials, -/
theorem step_mass (v : FVec Ideal S512x1280 .f32) (m r : FVec Ideal S1x1x1280 .f32) (l : ℕ → Fin 512 → EReal) (n : ℕ) (s : Fin 1280)
    (hv : ∀ i, v (ix2 i s) = l n i) (hm : m (ix3 0 0 s) = peak l n) (hr : r (ix3 0 0 s) = mass l n) :
    k0_pay14 (F := Ideal) v m r (ix3 0 0 s) = mass l (n + 1) := by
  pointwise [k0_pay14, k0_pay12, k0_pay11, k0_pay10, k0_pay9]
  rw [fold_max, hm, hr]
  simp only [hv]
  rw [peak_succ, mass_succ]

/-- and of the weighted sum. -/
theorem step_pull (v w : FVec Ideal S512x1280 .f32) (m r : FVec Ideal S1x1x1280 .f32) (l d : ℕ → Fin 512 → EReal) (n : ℕ)
    (s : Fin 1280) (hv : ∀ i, v (ix2 i s) = l n i) (hw : ∀ i, w (ix2 i s) = d n i) (hm : m (ix3 0 0 s) = peak l n)
    (hr : r (ix3 0 0 s) = pull l d n) :
    k0_pay15 (F := Ideal) v w m r (ix3 0 0 s) = pull l d (n + 1) := by
  pointwise [k0_pay15, k0_pay12, k0_pay11, k0_pay10, k0_pay9]
  rw [fold_max, hm, hr]
  simp only [hv, hw]
  rw [peak_succ, pull_succ]

theorem hN : cfg0.N = 36 := by decide +kernel

theorem entry_lt {n : ℕ} (hn : n < cfg0.N) : n / 6 < 6 := by have := lt_of_lt_of_eq hn hN; omega

/-- The three rows after a grid point: the statistics of the tiles of this batch entry met so far. -/
def Met (c : Dev nD) (n : ℕ) (hn : n < cfg0.N) (s : Fin 1280) : Prop :=
  (outsAt0 V c n hn).2.2 (ix3 0 0 s) = peak (tile (LG V c) ⟨n / 6, entry_lt hn⟩ s) (n % 6 + 1)
  ∧ (outsAt0 V c n hn).2.2 (ix3 0 1 s) = mass (tile (LG V c) ⟨n / 6, entry_lt hn⟩ s) (n % 6 + 1)
  ∧ (outsAt0 V c n hn).2.2 (ix3 0 2 s)
    = pull (tile (LG V c) ⟨n / 6, entry_lt hn⟩ s) (tile (DD V c) ⟨n / 6, entry_lt hn⟩ s) (n % 6 + 1)

theorem fill_peak (s : Fin 1280) : k0_pay7 (F := Ideal) (ix3 0 0 s) = ⊥ := by
  pointwise [k0_pay7]; exact neg_inf

theorem fill_rest (k : Fin 7) (s : Fin 1280) : k0_pay8 (F := Ideal) (ix3 0 k s) = 0 := by pointwise [k0_pay8]

theorem met_first (c : Dev nD) (t : Fin cfg0.N) (h0 : t.val % 6 = 0) (s : Fin 1280) : Met V c t.val t.isLt s := by
  unfold Met
  rw [outsAt0_A V c t h0]
  refine ⟨?_, ?_, ?_⟩
  · frame_out
    rw [canon_miss (r := 2) _ _ _ 0 (by decide) s, canon_miss (r := 1) _ _ _ 0 (by decide) s, canon_hit (r := 0) _ _ _ 0 rfl s]
    refine step_peak _ _ _ _ s (fun i => ?_) ?_
    · pointwise [k0_pay3, k0_pay2, k0_pay1, tile, LG, logit]
      blk_point [iblk, idx t, off1 t, off2 t]
    · rw [load_row (r := 0) _ _ _ 0 rfl s, canon_tail_miss, canon_hit (r := 0) _ _ _ 0 rfl s, h0]
      exact fill_peak s
  · frame_out
    rw [canon_miss (r := 2) _ _ _ 1 (by decide) s, canon_hit (r := 1) _ _ _ 1 rfl s]
    refine step_mass _ _ _ _ _ s (fun i => ?_) ?_ ?_
    · pointwise [k0_pay3, k0_pay2, k0_pay1, tile, LG, logit]
      blk_point [iblk, idx t, off1 t, off2 t]
    · rw [load_row (r := 0) _ _ _ 0 rfl s, canon_tail_miss, canon_hit (r := 0) _ _ _ 0 rfl s, h0]
      exact fill_peak s
    · rw [load_row (r := 1) _ _ _ 1 rfl s, canon_miss (r := 0) _ _ _ 1 (by decide) s, canon_tail _ _ _ 1 0 rfl s, h0]
      exact fill_rest 0 s
  · frame_out
    rw [canon_hit (r := 2) _ _ _ 2 rfl s]
    refine step_pull _ _ _ _ _ _ _ s (fun i => ?_) (fun i => ?_) ?_ ?_
    · pointwise [k0_pay3, k0_pay2, k0_pay1, tile, LG, logit]
      blk_point [iblk, idx t, off1 t, off2 t]
    · pointwise [k0_pay5, k0_pay2, k0_pay1, tile, DD, score]
      blk_point [iblk, idx t, off1 t, off2 t]
    · rw [load_row (r := 0) _ _ _ 0 rfl s, canon_tail_miss, canon_hit (r := 0) _ _ _ 0 rfl s, h0]
      exact fill_peak s
    · rw [load_row (r := 2) _ _ _ 2 rfl s, canon_miss (r := 1) _ _ _ 2 (by decide) s, canon_miss (r := 0) _ _ _ 2 (by decide) s, canon_tail _ _ _ 2 1 rfl s, h0]
      exact fill_rest 1 s

theorem met_next (c : Dev nD) (t : Fin cfg0.N) (h0 : ¬t.val % 6 = 0) (s : Fin 1280)
    (ih : Met V c (t.val - 1) (Nat.lt_of_le_of_lt (Nat.sub_le _ _) t.isLt) s) : Met V c t.val t.isLt s := by
  unfold Met at ih ⊢
  have eb : (⟨(t.val - 1) / 6, entry_lt (Nat.lt_of_le_of_lt (Nat.sub_le _ _) t.isLt)⟩ : Fin 6) = ⟨t.val / 6, entry_lt t.isLt⟩ :=
    Fin.ext (by show (t.val - 1) / 6 = t.val / 6; omega)
  rw [eb, (by omega : (t.val - 1) % 6 + 1 = t.val % 6)] at ih
  obtain ⟨i0, i1, i2⟩ := ih
  rw [outsAt0_B V c t h0]
  refine ⟨?_, ?_, ?_⟩
  · frame_out
    rw [read_miss (r := 2) _ _ _ _ _ 0 (by decide) s, read_miss (r := 1) _ _ _ _ _ 0 (by decide) s, read_hit (r := 0) _ _ _ _ _ 0 rfl s]
    refine step_peak _ _ _ _ s (fun i => ?_) ?_
    · pointwise [k0_pay3, k0_pay2, k0_pay1, tile, LG, logit]
      blk_point [iblk, idx t, off1 t, off2 t]
    · rw [← i0]; pointwise
  · frame_out
    rw [read_miss (r := 2) _ _ _ _ _ 1 (by decide) s, read_hit (r := 1) _ _ _ _ _ 1 rfl s]
    refine step_mass _ _ _ _ _ s (fun i => ?_) ?_ ?_
    · pointwise [k0_pay3, k0_pay2, k0_pay1, tile, LG, logit]
      blk_point [iblk, idx t, off1 t, off2 t]
    · rw [← i0]; pointwise
    · rw [← i1]; pointwise
  · frame_out
    rw [read_hit (r := 2) _ _ _ _ _ 2 rfl s]
    refine step_pull _ _ _ _ _ _ _ s (fun i => ?_) (fun i => ?_) ?_ ?_
    · pointwise [k0_pay3, k0_pay2, k0_pay1, tile, LG, logit]
      blk_point [iblk, idx t, off1 t, off2 t]
    · pointwise [k0_pay5, k0_pay2, k0_pay1, tile, DD, score]
      blk_point [iblk, idx t, off1 t, off2 t]
    · rw [← i0]; pointwise
    · rw [← i2]; pointwise

theorem met (c : Dev nD) (s : Fin 1280) : ∀ (n : ℕ) (hn : n < cfg0.N), Met V c n hn s := by
  intro n
  induction n with
  | zero => intro hn; exact met_first V c ⟨0, hn⟩ rfl s
  | succ n ih =>
    intro hn
    by_cases h0 : (n + 1) % 6 = 0
    · exact met_first V c ⟨n + 1, hn⟩ h0 s
    · exact met_next V c ⟨n + 1, hn⟩ h0 s (ih (Nat.lt_of_succ_lt hn))

/-- The statistics of whole columns. -/
def top (A : FVec Ideal S6x3072x1280 .f32) (b : Fin 6) (s : Fin 1280) : EReal :=
  Finset.univ.fold max (Ideal.ofBits .f32 0xFF800000#32) fun k : Fin 3072 => A (ix3 b k s)
def sum1 (A : FVec Ideal S6x3072x1280 .f32) (b : Fin 6) (s : Fin 1280) : EReal :=
  ∑ k : Fin 3072, Ideal.exp (A (ix3 b k s) - top A b s)
def sum2 (A E : FVec Ideal S6x3072x1280 .f32) (b : Fin 6) (s : Fin 1280) : EReal :=
  ∑ k : Fin 3072, Ideal.exp (A (ix3 b k s) - top A b s) * E (ix3 b k s)

theorem tile_at (A : FVec Ideal S6x3072x1280 .f32) (b : Fin 6) (s : Fin 1280) (j : Fin 6) (i : Fin 512) :
    tile A b s j i = A (ix3 b ⟨j.val * 512 + i.val, by omega⟩ s) := by
  unfold tile; simp only [Nat.mod_eq_of_lt j.isLt]

theorem peak_column (A : FVec Ideal S6x3072x1280 .f32) (b : Fin 6) (s : Fin 1280) : peak (tile A b s) 6 = top A b s := by
  rw [top, fold_max]
  exact sup_column (fun k => A (ix3 b k s)) _ (tile_at A b s)

theorem mass_column (A : FVec Ideal S6x3072x1280 .f32) (b : Fin 6) (s : Fin 1280) : mass (tile A b s) 6 = sum1 A b s := by
  rw [mass, peak_column]
  exact sum_column (fun k => Ideal.exp (A (ix3 b k s) - top A b s)) (fun j i => Ideal.exp (tile A b s j i - top A b s))
    fun j i => by rw [tile_at]

theorem pull_column (A E : FVec Ideal S6x3072x1280 .f32) (b : Fin 6) (s : Fin 1280) :
    pull (tile A b s) (tile E b s) 6 = sum2 A E b s := by
  rw [pull, peak_column]
  exact sum_column (fun k => Ideal.exp (A (ix3 b k s) - top A b s) * E (ix3 b k s))
    (fun j i => Ideal.exp (tile A b s j i - top A b s) * tile E b s j i) fun j i => by rw [tile_at, tile_at]

/-- Rows 0, 1 and 2 of the statistics array. -/
def Stats (A E : FVec Ideal S6x3072x1280 .f32) (i : S6x8x1280.Idx) (x : EReal) : Prop :=
  ((i 1).val = 0 → x = top A (i 0) (i 2)) ∧ ((i 1).val = 1 → x = sum1 A (i 0) (i 2)) ∧ ((i 1).val = 2 → x = sum2 A E (i 0) (i 2))

theorem stats_of_met (c : Dev nD) (t : Fin cfg0.N) (h5 : t.val % 6 = 5) (y : S1x8x1280.Idx) (i : S6x8x1280.Idx)
    (e0 : (i 0).val = t.val / 6) (e1 : (i 1).val = (y 1).val) (e2 : (i 2).val = (y 2).val) :
    Stats (LG V c) (DD V c) i ((outsAt0 V c t.val t.isLt).2.2 y) := by
  idx_vars y
  have hm := met V c y2 t.val t.isLt
  unfold Met at hm
  rw [h5, peak_column, mass_column, pull_column] at hm
  have a0 : i 0 = (⟨t.val / 6, entry_lt t.isLt⟩ : Fin 6) := Fin.ext e0
  have a2 : i 2 = y2 := Fin.ext e2
  have b0 : y0 = 0 := Subsingleton.elim _ _
  subst b0
  unfold Stats
  rw [a0, a2]
  refine ⟨fun h => ?_, fun h => ?_, fun h => ?_⟩
  · have : y1 = 0 := Fin.ext (by rw [h] at e1; exact e1.symm)
    subst this; exact hm.1
  · have : y1 = 1 := Fin.ext (by rw [h] at e1; exact e1.symm)
    subst this; exact hm.2.1
  · have : y1 = 2 := Fin.ext (by rw [h] at e1; exact e1.symm)
    subst this; exact hm.2.2

theorem final8 (c : Dev nD) (i : S6x8x1280.Idx) : Stats (LG V c) (DD V c) i ((dat V c).arrAt 8 cfg0.N i) := by
  refine (dat V c).arrAt_forall_of_covers 8 (fun i x => Stats (LG V c) (DD V c) i x) (by decide +kernel) (fun t hf y => ?_) i
  have h5 : t.val % 6 = 5 := (flush0_8 t).mp hf
  blk_simp; rw [after0_8]
  refine stats_of_met V c t h5 y _ ?_ ?_ ?_
  all_goals (blk_simp [idx t] <;> try omega)

end Cert.Proof.V0

end
end
-- ==== Proof.V1.lean ====
module

public import proofs.«01_k».proof.Proof.K1
public import proofs.«01_k».proof.Proof.Spec
public import Idealize.ShloMosaic.Lib.Pipeline.ValueKit
public import Idealize.ShloMosaic.Lib.Pointwise

/-! The gradient call: its five result arrays. -/

set_option maxRecDepth 16384

@[expose] public section

noncomputable section

open Idealize.ShloMosaic Idealize.ShloMosaic.TcCoe Idealize.SL.Sem
open Idealize.ShloMosaic.Pipeline (Dat)

namespace Cert.Proof.V1
open Cert.KernelIdeal Cert.KernelIdeal.Gen Cert.Proof.K1 Cert.Proof.Spec

variable (V : (c : Dev nD) → (b : Ref sig .tc) → Buf (Elt Ideal) ((c : Thread nD τ).loc b))

/-- Where the windows stand at a grid point. -/
theorem idx : ∀ t : Fin cfg1.N, win1_0.index t = ![t.val / 6, t.val % 6, 0] ∧ win1_1.index t = ![t.val / 6, 0, 0]
    ∧ win1_2.index t = ![t.val / 6, t.val % 6, 0] ∧ win1_3.index t = ![t.val / 6, t.val % 6, 0]
    ∧ win1_4.index t = ![t.val / 6, 0, 0] ∧ win1_5.index t = ![0, 0] ∧ win1_6.index t = ![0, 0] ∧ win1_7.index t = ![0, 0]
    ∧ win1_8.index t = ![t.val / 6, t.val % 6, 0] ∧ win1_9.index t = ![t.val / 6, t.val % 6, 0]
    ∧ win1_10.index t = ![t.val / 6, 0, t.val % 6] ∧ win1_11.index t = ![t.val / 6, t.val % 6, 0]
    ∧ win1_12.index t = ![t.val / 6, 0, t.val % 6] := (by decide +kernel : ∀ t : Fin grid1.N, _)

/-- Where the rows of scales are read at a grid point. -/
theorem off1 : ∀ t : Fin cfg1.N, k1_off1 (grid1.coords t) = ![t.val / 6, t.val % 6 * 512] :=
  (by decide +kernel : ∀ t : Fin grid1.N, _)
theorem off2 : ∀ t : Fin cfg1.N, k1_off2 (grid1.coords t) = ![t.val / 6, 0] :=
  (by decide +kernel : ∀ t : Fin grid1.N, _)

/-- The gradient of the combination weights. -/
def grad (c : Dev nD) : FVec Ideal S6x3072x1280 .f32 :=
  score (φ := .fp8e5m2) (ψ := .fp8e4m3) (V c main_arg6) (V c main_arg4) (V c main_arg7) (V c main_arg5)

theorem final8 (c : Dev nD) : (dat V c).arrAt 8 cfg1.N = dlog (V c main_v1_0) (V c main_v1_1) (grad V c) (V c main_v1_2) := by
  refine (dat V c).arrAt_eq_of_covers 8 _ (by decide +kernel) fun t _ y => ?_
  blk_simp; rw [after1_8]; unfold outsAt1; frame_out
  pointwise [k1_pay13, k1_pay12, k1_pay10, k1_pay9, k1_pay5, k1_pay4, k1_pay7, k1_pay6, dlog, rowGrad, disp, comb, grad, score]
  blk_point [iblk, idx t, off1 t, off2 t]

theorem final9 (c : Dev nD) : (dat V c).arrAt 9 cfg1.N = dlog (V c main_v1_0) (V c main_v1_1) (grad V c) (V c main_v1_2) := by
  refine (dat V c).arrAt_eq_of_covers 9 _ (by decide +kernel) fun t _ y => ?_
  blk_simp; rw [after1_9]; unfold outsAt1; frame_out
  pointwise [k1_pay1, k1_pay2, k1_pay12, k1_pay10, k1_pay9, k1_pay5, k1_pay4, k1_pay7, k1_pay6, dlog, rowGrad, disp, comb, grad, score]
  blk_point [iblk, idx t, off1 t, off2 t]

theorem final10 (c : Dev nD) : (dat V c).arrAt 10 cfg1.N = fun j : S6x1280x3072.Idx =>
    dlog (V c main_v1_0) (V c main_v1_1) (grad V c) (V c main_v1_2) (ix3 (j 0) (j 2) (j 1)) := by
  refine (dat V c).arrAt_eq_of_covers 10 _ (by decide +kernel) fun t _ y => ?_
  blk_simp; rw [after1_10]; unfold outsAt1; frame_out
  pointwise [k1_pay1, k1_pay3, k1_pay12, k1_pay10, k1_pay9, k1_pay5, k1_pay4, k1_pay7, k1_pay6, dlog, rowGrad, disp, comb, grad, score]
  blk_point [iblk, idx t, off1 t, off2 t]

theorem final11 (c : Dev nD) : (dat V c).arrAt 11 cfg1.N = fun j : S6x3072x1280.Idx =>
    disp (V c main_v1_0) (V c main_v1_2) j * V c main_arg9 (ix2 (j 0) (j 2)) := by
  refine (dat V c).arrAt_eq_of_covers 11 _ (by decide +kernel) fun t _ y => ?_
  blk_simp; rw [after1_11]; unfold outsAt1; frame_out
  pointwise [k1_pay11, k1_pay10, k1_pay9, k1_pay6, disp]
  blk_point [iblk, idx t, off1 t, off2 t]

theorem final12 (c : Dev nD) : (dat V c).arrAt 12 cfg1.N = fun j : S6x1280x3072.Idx =>
    comb (V c main_v1_0) (ix3 (j 0) (j 2) (j 1)) * V c main_arg7 (ix2 (j 0) (j 2)) := by
  refine (dat V c).arrAt_eq_of_covers 12 _ (by decide +kernel) fun t _ y => ?_
  blk_simp; rw [after1_12]; unfold outsAt1; frame_out
  pointwise [k1_pay8, k1_pay4, k1_pay7, k1_pay6, comb]
  blk_point [iblk, idx t, off1 t]

end Cert.Proof.V1

end
end
-- ==== Proof.V2.lean ====
module

public import proofs.«01_k».proof.Proof.K2
public import proofs.«01_k».proof.Proof.Spec
public import Idealize.ShloMosaic.Lib.Pipeline.ValueKit
public import Idealize.ShloMosaic.Lib.Pipeline.ReadBack
public import Idealize.ShloMosaic.Lib.Pointwise

/-! The token-gradient call: two products per token row, the router columns scaled once and kept. -/

set_option maxRecDepth 16384

@[expose] public section

noncomputable section

open Idealize.ShloMosaic Idealize.ShloMosaic.TcCoe Idealize.SL.Sem
open Idealize.ShloMosaic.Pipeline (Dat)

namespace Cert.Proof.V2
open Cert.KernelIdeal Cert.KernelIdeal.Gen Cert.Proof.K2 Cert.Proof.Spec

variable (V : (c : Dev nD) → (b : Ref sig .tc) → Buf (Elt Ideal) ((c : Thread nD τ).loc b))

/-- Where the windows stand at a grid point. -/
theorem idx : ∀ t : Fin cfg2.N, win2_0.index t = ![t.val / 6, t.val % 6, 0] ∧ win2_1.index t = ![t.val / 6, t.val % 6, 0]
    ∧ win2_2.index t = ![t.val / 6, 0, 0] ∧ win2_3.index t = ![0, 0] ∧ win2_4.index t = ![0, 0]
    ∧ win2_5.index t = ![t.val / 6, t.val % 6, 0] := (by decide +kernel : ∀ t : Fin grid2.N, _)

/-- The scaled router columns. -/
def kept (P : FVec Ideal S5120x1280 .fp8e4m3) (Q : FVec Ideal S1x1280 .f32) : FVec Ideal S5120x1280 .bf16 := fun j =>
  P j * Q (ix2 0 (j 1))

theorem filled (c : Dev nD) (t : Fin cfg2.N) (h0 : t.val % 36 = 0) (y : S5120x1280.Idx) :
    (outsAt2 V c t.val t.isLt).2 y = kept (V c main_arg2) (V c main_v0) y := by
  rw [outsAt2_A V c t h0]
  frame_out
  pointwise [k2_pay1, kept]
  blk_point [iblk, idx t]

theorem passed (c : Dev nD) (t : Fin cfg2.N) (h0 : ¬t.val % 36 = 0) (y : S5120x1280.Idx) :
    (outsAt2 V c t.val t.isLt).2 y = (outsAt2 V c (t.val - 1) (Nat.lt_of_le_of_lt (Nat.sub_le _ _) t.isLt)).2 y := by
  rw [outsAt2_B V c t h0]
  dsimp only [sout2_B_0]

/-- The carried buffer holds the scaled router columns after every point. -/
theorem carried (c : Dev nD) : ∀ (n : ℕ) (hn : n < cfg2.N) (y : S5120x1280.Idx),
    (outsAt2 V c n hn).2 y = kept (V c main_arg2) (V c main_v0) y := by
  intro n
  induction n with
  | zero => intro hn y; exact filled V c ⟨0, hn⟩ rfl y
  | succ n ih =>
    intro hn y
    by_cases h0 : (n + 1) % 36 = 0
    · exact filled V c ⟨n + 1, hn⟩ h0 y
    · exact (passed V c ⟨n + 1, hn⟩ h0 y).trans (ih (Nat.lt_of_succ_lt hn) y)

/-- Tokens' gradient: through the dispatched rows and through the logits. -/
def dx (D L : FVec Ideal S6x3072x1280 .bf16) (B : FVec Ideal S6x1280x5120 .fp8e5m2) (P : FVec Ideal S5120x1280 .bf16) :
    FVec Ideal S6x3072x5120 .bf16 := fun j =>
  (∑ s : Fin 1280, D (ix3 (j 0) (j 1) s) * B (ix3 (j 0) s (j 2))) + ∑ s : Fin 1280, L (ix3 (j 0) (j 1) s) * P (ix2 (j 2) s)

theorem final (c : Dev nD) : (dat V c).arrAt 5 cfg2.N
    = dx (V c main_v2_3) (V c main_v2_1) (V c main_arg8) (kept (V c main_arg2) (V c main_v0)) := by
  refine (dat V c).arrAt_eq_of_covers 5 _ (by decide +kernel) fun t _ y => ?_
  blk_simp; rw [after2_5]
  by_cases h0 : t.val % 36 = 0
  · rw [outsAt2_A V c t h0]; frame_out
    pointwise [k2_pay2, k2_pay1, dx, kept]
    blk_point [iblk, idx t]
  · rw [outsAt2_B V c t h0]; frame_out
    have hk : (outsAt2 V c (t.val - 1) (Nat.lt_of_le_of_lt (Nat.sub_le _ _) t.isLt)).2 = kept (V c main_arg2) (V c main_v0) :=
      funext fun y => carried V c _ _ y
    rw [hk, read_unread_whole]
    pointwise [k2_pay2, dx, kept]
    blk_point [iblk, idx t]

end Cert.Proof.V2

end
end
-- ==== Proof.V3.lean ====
module

public import proofs.«01_k».proof.Proof.K3
public import Idealize.ShloMosaic.Lib.Pipeline.ValueKit
public import Idealize.ShloMosaic.Lib.Pointwise

/-! The slot-gradient call: its result array is one product per batch entry. -/

set_option maxRecDepth 16384

@[expose] public section

noncomputable section

open Idealize.ShloMosaic Idealize.ShloMosaic.TcCoe Idealize.SL.Sem
open Idealize.ShloMosaic.Pipeline (Dat)

namespace Cert.Proof.V3
open Cert.KernelIdeal Cert.KernelIdeal.Gen Cert.Proof.K3

variable (V : (c : Dev nD) → (b : Ref sig .tc) → Buf (Elt Ideal) ((c : Thread nD τ).loc b))

/-- The product of each batch entry's matrices `A` (slots by tokens) and `B` (tokens by features). -/
def REF (A : FVec Ideal S6x1280x3072 .bf16) (B : FVec Ideal S6x3072x5120 .fp8e5m2) : FVec Ideal S6x1280x5120 .bf16 :=
  fun j => ∑ k : Fin 3072, A (ix3 (j 0) (j 1) k) * B (ix3 (j 0) k (j 2))

/-- The windows' block indices. -/
theorem idx : ∀ t : Fin cfg3.N, win3_0.index t = ![t.val / 5, 0, 0] ∧ win3_1.index t = ![t.val / 5, 0, t.val % 5] ∧ win3_2.index t = ![t.val / 5, 0, t.val % 5] :=
  (by decide +kernel : ∀ t : Fin grid3.N, _)

/-- What the body stores is the product read at the block's place. -/
theorem point (c : Dev nD) (t : Fin cfg3.N) (y : S1x1280x1024.Idx) : k3_pay1 (iblk V c 0 t) (iblk V c 1 t) y
    = REF (V c main_v2_4) (V c main_arg6) (((cfg3.win 2).blk t).view.emb y) := by
  pointwise [k3_pay1, REF]
  blk_point [iblk, idx t]

/-- The result array. -/
theorem final (c : Dev nD) : (dat V c).arrAt 2 cfg3.N = REF (V c main_v2_4) (V c main_arg6) := by
  refine (dat V c).arrAt_eq_of_covers 2 _ (by decide +kernel) fun t _ y => ?_
  blk_simp
  rw [after3_2]; frame_out
  exact point V c t y

end Cert.Proof.V3
-- ==== Proof.V4.lean ====
module

public import proofs.«01_k».proof.Proof.K4
public import proofs.«01_k».proof.Proof.Spec
public import Idealize.ShloMosaic.Lib.Pipeline.ValueKit
public import Idealize.ShloMosaic.Lib.Pipeline.ReadBack
public import Idealize.ShloMosaic.Lib.Pointwise

/-! The router-gradient call: for each block of model columns, one product per batch entry, summed. -/

set_option maxRecDepth 16384

@[expose] public section

noncomputable section

open Idealize.ShloMosaic Idealize.ShloMosaic.TcCoe Idealize.SL.Sem
open Idealize.ShloMosaic.Pipeline (Dat)

namespace Cert.Proof.V4
open Cert.KernelIdeal Cert.KernelIdeal.Gen Cert.Proof.K4 Cert.Proof.Spec

variable (V : (c : Dev nD) → (b : Ref sig .tc) → Buf (Elt Ideal) ((c : Thread nD τ).loc b))

/-- Where the windows stand at a grid point. -/
theorem idx : ∀ t : Fin cfg4.N, win4_0.index t = ![t.val % 6, 0, 0] ∧ win4_1.index t = ![t.val % 6, 0, t.val / 6]
    ∧ win4_2.index t = ![0, 0] ∧ win4_3.index t = ![t.val / 6, 0] := (by decide +kernel : ∀ t : Fin grid4.N, _)
theorem off1 : ∀ t : Fin cfg4.N, k4_off1 (grid4.coords t) = ![t.val % 6, 0] :=
  (by decide +kernel : ∀ t : Fin grid4.N, _)

/-- The router's gradient: over all tokens of all batch entries. -/
def dphi (L : FVec Ideal S6x1280x3072 .bf16) (X : FVec Ideal S6x3072x5120 .fp8e4m3) (C : FVec Ideal S6x3072 .f32) :
    FVec Ideal S5120x1280 .bf16 := fun j =>
  ∑ b : Fin 6, ∑ t : Fin 3072, L (ix3 b (j 1) t) * (X (ix3 b t (j 0)) * C (ix2 b t))

theorem hzero (j) : k4_pay2 (F := Ideal) j = 0 := by pointwise [k4_pay2]

theorem hpay (acc : FVec Ideal S1280x1024 .f32) (l : FVec Ideal S1x1280x3072 .bf16) (s : FVec Ideal S1x3072 .f32)
    (x : FVec Ideal S1x3072x1024 .fp8e4m3) (j : S1280x1024.Idx) :
    k4_pay3 (F := Ideal) acc l (k4_pay1 (F := Ideal) s x) j
      = acc j + ∑ k : Fin 3072, l (ix3 0 (j 0) k) * (x (ix3 0 k (j 1)) * s (ix2 0 k)) := by
  pointwise [k4_pay3, k4_pay1]

theorem hN : cfg4.N = 30 := by decide +kernel

theorem col_lt (t : Fin cfg4.N) {d : ℕ} (hd : d < 1024) : t.val / 6 * 1024 + d < 5120 := by
  have := lt_of_lt_of_eq t.isLt hN; omega

/-- What a grid point adds to the carried sum. -/
def part (L : FVec Ideal S6x1280x3072 .bf16) (X : FVec Ideal S6x3072x5120 .fp8e4m3) (C : FVec Ideal S6x3072 .f32)
    (t : Fin cfg4.N) : S1280x1024.Idx → EReal := fun j =>
  ∑ k : Fin 3072, L (ix3 ⟨t.val % 6, by omega⟩ (j 0) k)
    * (X (ix3 ⟨t.val % 6, by omega⟩ k ⟨t.val / 6 * 1024 + (j 1).val, col_lt t (j 1).isLt⟩) * C (ix2 ⟨t.val % 6, by omega⟩ k))

theorem first (c : Dev nD) (t : Fin cfg4.N) (h0 : t.val % 6 = 0) (j : S1280x1024.Idx) :
    (outsAt4 V c t.val t.isLt).2 j = 0 + part (V c main_v2_2) (V c main_arg0) (V c main_arg1) t j := by
  rw [outsAt4_A V c t h0 (by omega)]; frame_out
  rw [hpay, hzero]
  refine congrArg _ ?_
  unfold part
  pointwise
  blk_point [iblk, idx t, off1 t]

theorem next (c : Dev nD) (t : Fin cfg4.N) (h0 : ¬t.val % 6 = 0) (j : S1280x1024.Idx) :
    (outsAt4 V c t.val t.isLt).2 j
      = (outsAt4 V c (t.val - 1) (Nat.lt_of_le_of_lt (Nat.sub_le _ _) t.isLt)).2 j + part (V c main_v2_2) (V c main_arg0) (V c main_arg1) t j := by
  by_cases h1 : t.val % 6 = 5
  · rw [outsAt4_C V c t h0 h1]; frame_out
    rw [hpay, read_unread_whole]
    refine congrArg _ ?_
    unfold part
    pointwise
    blk_point [iblk, idx t, off1 t]
  · rw [outsAt4_B V c t h0 h1]; frame_out
    rw [hpay, read_unread_whole]
    refine congrArg _ ?_
    unfold part
    pointwise
    blk_point [iblk, idx t, off1 t]

theorem written (c : Dev nD) (t : Fin cfg4.N) (h1 : t.val % 6 = 5) (y : S1024x1280.Idx) :
    (outsAt4 V c t.val t.isLt).1 y = (outsAt4 V c t.val t.isLt).2 (ix2 (y 1) (y 0)) := by
  rw [outsAt4_C V c t (by omega) h1]; frame_out
  pointwise [k4_pay4]

theorem final (c : Dev nD) : (dat V c).arrAt 3 cfg4.N = dphi (V c main_v2_2) (V c main_arg0) (V c main_arg1) := by
  refine (dat V c).arrAt_eq_of_covers 3 _ (by decide +kernel) fun t hf y => ?_
  blk_simp; rw [after4_3]
  have h5 : t.val % 6 = 5 := (flush4_3 t).mp hf
  rw [written V c t h5]
  rw [Pipeline.eq_sum_fin_of_reset_step_apply_of_flush (fun n h => (outsAt4 V c n h).2) 6 (fun _ => 0) (part (V c main_v2_2) (V c main_arg0) (V c main_arg1))
    (fun t h j => first V c t h j) (fun t h j => next V c t h j) t h5 _, zero_add]
  unfold dphi part
  refine Fin.sum_fin_congr fun s => ?_
  refine Fin.sum_fin_congr fun k => ?_
  pointwise
  blk_point [idx t, idx ⟨_, Pipeline.run_point_lt_of_flush t h5 s⟩]

end Cert.Proof.V4

end
end
-- ==== Proof.Plain.lean ====
module

public import proofs.«01_k».proof.Proof.Spec
public import proofs.«01_k».proof.Proof.Online
public import proofs.«01_k».proof.Proof.Gen.ReferenceIdeal.Value
public import Idealize.ShloMosaic.Lib.Pointwise

/-! The reference's results, written with the functions of Spec.lean. -/

set_option maxRecDepth 16384

@[expose] public section

noncomputable section

open Idealize.ShloMosaic

namespace Cert.Proof.Plain
open Cert.ReferenceIdeal Cert.ReferenceIdeal.Gen Cert.Proof.Spec

/-- The maximum of a column of tokens. -/
def top (L : FVec Ideal S6x3072x1280 .f32) (b : Fin 6) (s : Fin 1280) : EReal :=
  Finset.univ.fold max (Ideal.ofBits .f32 0xFF800000#32) fun k : Fin 3072 => L (ix3 b k s)

/-- The softmax along the tokens. -/
def column (L : FVec Ideal S6x3072x1280 .f32) : FVec Ideal S6x3072x1280 .f32 := fun j =>
  Ideal.exp (L j - top L (j 0) (j 2)) * Ideal.div 1 (∑ k : Fin 3072, Ideal.exp (L (ix3 (j 0) k (j 2)) - top L (j 0) (j 2)))

/-- The gradient through the softmax along the tokens. -/
def colGrad (L E : FVec Ideal S6x3072x1280 .f32) : FVec Ideal S6x3072x1280 .f32 := fun j =>
  column L j * (E j - ∑ k : Fin 3072, column L (ix3 (j 0) k (j 2)) * E (ix3 (j 0) k (j 2)))

/-- The column scales as one row. -/
def row (Q : FVec Ideal S1280 .f32) : FVec Ideal S1x1280 .f32 := fun j => Q (ix1 (j 1))

variable (a0 : FVec Ideal S6x3072x5120 .fp8e4m3) (a1 : FVec Ideal S6x3072 .f32) (a2 : FVec Ideal S5120x1280 .fp8e4m3)
  (a3 : FVec Ideal S1280 .f32) (a4 : FVec Ideal S6x1280x5120 .fp8e4m3) (a5 : FVec Ideal S6x1280 .f32)
  (a6 : FVec Ideal S6x3072x5120 .fp8e5m2) (a7 : FVec Ideal S6x3072 .f32) (a8 : FVec Ideal S6x1280x5120 .fp8e5m2)
  (a9 : FVec Ideal S6x1280 .f32)

theorem logits_eq : k0_pay3 (F := Ideal) a0 a2 a1 a3 = logit a0 a1 a2 (row a3) := by
  funext j; pointwise [k0_pay3, logit, row]

theorem column_eq : k0_pay4 (F := Ideal) a0 a2 a1 a3 = column (logit a0 a1 a2 (row a3)) := by
  unfold k0_pay4; rw [logits_eq]
  generalize logit a0 a1 a2 (row a3) = L
  funext j; pointwise [column, top]

theorem comb_eq : k0_pay5 (F := Ideal) a0 a2 a1 a3 = comb (logit a0 a1 a2 (row a3)) := by
  unfold k0_pay5; rw [logits_eq]
  generalize logit a0 a1 a2 (row a3) = L
  funext j; pointwise [comb]

/-- The gradient of the logits. -/
theorem grad_eq (L : FVec Ideal S6x3072x1280 .f32) :
    k0_pay11 (F := Ideal) a1 a5 a7 a9 (column L) (comb L) (k0_pay6 a0) a6 a8 a4 = fun j =>
      rowGrad L (score a6 a4 a7 a5) j + colGrad L (score a0 a8 a1 a9) j := by
  funext j
  unfold rowGrad colGrad
  generalize comb L = P
  generalize column L = D
  pointwise [k0_pay11, k0_pay6, k0_pay7, k0_pay8, score]

/-! A load of a whole array is the array. -/

theorem ld0 {e : EltTy} (x : Vec Ideal S6x3072x5120 e) : View.ld x r0_0 = x := View.ld_unit_zero (S := S6x3072x5120) Value.hz0 _ x
theorem ld1 {e : EltTy} (x : Vec Ideal S5120x1280 e) : View.ld x r0_1 = x := View.ld_unit_zero (S := S5120x1280) Value.hz2 _ x
theorem ld2 {e : EltTy} (x : Vec Ideal S6x3072 e) : View.ld x r0_2 = x := View.ld_unit_zero (S := S6x3072) Value.hz1 _ x
theorem ld3 {e : EltTy} (x : Vec Ideal S1280 e) : View.ld x r0_3 = x := View.ld_unit_zero (S := S1280) Value.hz3 _ x
theorem ld4 {e : EltTy} (x : Vec Ideal S6x1280 e) : View.ld x r0_4 = x := View.ld_unit_zero (S := S6x1280) Value.hz5 _ x
theorem ld5 {e : EltTy} (x : Vec Ideal S6x1280x5120 e) : View.ld x r0_5 = x := View.ld_unit_zero (S := S6x1280x5120) Value.hz4 _ x

/-- The gradient of the logits, as one function of the logits and of the two score arrays. -/
def dl (L E G : FVec Ideal S6x3072x1280 .f32) : FVec Ideal S6x3072x1280 .f32 := fun j => rowGrad L G j + colGrad L E j

theorem ld_col : k0_pay15 (F := Ideal) a0 a1 a2 a3 a4 a5 a6 a7 a8 a9 = column (logit a0 a1 a2 (row a3)) := by
  unfold k0_pay15
  rw [ld0 (e := .fp8e4m3) a0, ld1 (e := .fp8e4m3) a2,
    ld2 (e := .f32) a1, ld3 (e := .f32) a3, column_eq]

theorem ld_comb : k0_pay16 (F := Ideal) a0 a1 a2 a3 a4 a5 a6 a7 a8 a9 = comb (logit a0 a1 a2 (row a3)) := by
  unfold k0_pay16
  rw [ld0 (e := .fp8e4m3) a0, ld1 (e := .fp8e4m3) a2,
    ld2 (e := .f32) a1, ld3 (e := .f32) a3, comb_eq]

theorem ld_tok : k0_pay17 (F := Ideal) a0 a1 a2 a3 a4 a5 a6 a7 a8 a9 = k0_pay6 (F := Ideal) a0 := by
  unfold k0_pay17; rw [ld0 (e := .fp8e4m3) a0]

/-- Result 4, the gradient of the logits. -/
theorem dlogits_eq : Value.G13 (F := Ideal) a0 a1 a2 a3 a4 a5 a6 a7 a8 a9
    = dl (logit a0 a1 a2 (row a3)) (score a0 a8 a1 a9) (score a6 a4 a7 a5) := by
  unfold Value.G13
  rw [ld_col, ld_comb, ld_tok, grad_eq]; rfl

theorem ld_dl : k0_pay18 (F := Ideal) a0 a1 a2 a3 a4 a5 a6 a7 a8 a9
    = dl (logit a0 a1 a2 (row a3)) (score a0 a8 a1 a9) (score a6 a4 a7 a5) := by
  rw [← dlogits_eq]
  unfold k0_pay18 Value.G13
  rw [ld2 (e := .f32) a1, ld4 (e := .f32) a5, ld2 (e := .f32) a7,
    ld4 (e := .f32) a9, ld0 (e := .fp8e5m2) a6,
    ld5 (e := .fp8e5m2) a8, ld5 (e := .fp8e4m3) a4]
  funext j; pointwise [k0_pay12]

/-- Result 1, the gradient of the tokens. -/
theorem dx_eq : Value.G10 (F := Ideal) a0 a1 a2 a3 a4 a5 a6 a7 a8 a9 = fun j : S6x3072x5120.Idx =>
    (∑ s : Fin 1280, (column (logit a0 a1 a2 (row a3)) (ix3 (j 0) (j 1) s) * a9 (ix2 (j 0) s)) * a8 (ix3 (j 0) s (j 2)))
    + ∑ s : Fin 1280, dl (logit a0 a1 a2 (row a3)) (score a0 a8 a1 a9) (score a6 a4 a7 a5) (ix3 (j 0) (j 1) s)
        * (a2 (ix2 (j 2) s) * row a3 (ix2 0 s)) := by
  unfold Value.G10
  rw [ld_col, ld_dl]
  generalize column (logit a0 a1 a2 (row a3)) = D
  generalize dl (logit a0 a1 a2 (row a3)) (score a0 a8 a1 a9) (score a6 a4 a7 a5) = H
  funext j
  pointwise [k0_pay2, k0_pay10, k0_pay8, k0_pay13, k0_pay14, row]

/-- Result 2, the gradient of the router. -/
theorem dphi_eq : Value.G11 (F := Ideal) a0 a1 a2 a3 a4 a5 a6 a7 a8 a9 = fun j : S5120x1280.Idx =>
    ∑ b : Fin 6, ∑ t : Fin 3072, dl (logit a0 a1 a2 (row a3)) (score a0 a8 a1 a9) (score a6 a4 a7 a5) (ix3 b t (j 1))
        * (a0 (ix3 b t (j 0)) * a1 (ix2 b t)) := by
  unfold Value.G11
  rw [ld_tok, ld_dl]
  generalize dl (logit a0 a1 a2 (row a3)) (score a0 a8 a1 a9) (score a6 a4 a7 a5) = H
  funext j
  pointwise [k0_pay1, k0_pay6]
  exact Finset.sum_congr rfl fun b _ => Finset.sum_congr rfl fun t _ => mul_comm _ _

/-- Result 3, the gradient of the slots. -/
theorem dslot_eq : Value.G12 (F := Ideal) a0 a1 a2 a3 a4 a5 a6 a7 a8 a9 = fun j : S6x1280x5120.Idx =>
    ∑ t : Fin 3072, (comb (logit a0 a1 a2 (row a3)) (ix3 (j 0) t (j 1)) * a7 (ix2 (j 0) t)) * a6 (ix3 (j 0) t (j 2)) := by
  unfold Value.G12
  rw [ld_comb]
  generalize comb (logit a0 a1 a2 (row a3)) = P
  funext j
  pointwise [k0_pay9, k0_pay7]

/-! On real logits the two softmaxes are the exponentials divided by their sums. -/

theorem column_quotient (L : FVec Ideal S6x3072x1280 .f32) (h : ∀ j, ∃ x : ℝ, L j = x) (b : Fin 6) (t : Fin 3072) (s : Fin 1280) :
    column L (ix3 b t s)
      = Ideal.div (Ideal.exp (L (ix3 b t s) - top L b s)) (∑ k : Fin 3072, Ideal.exp (L (ix3 b k s) - top L b s)) :=
  Online.softmax_quotient (fun k : Fin 3072 => L (ix3 b k s)) (fun k => h _) t

theorem comb_quotient (L : FVec Ideal S6x3072x1280 .f32) (h : ∀ j, ∃ x : ℝ, L j = x) (b : Fin 6) (t : Fin 3072) (s : Fin 1280) :
    comb L (ix3 b t s)
      = Ideal.div (Ideal.exp (L (ix3 b t s) - Finset.univ.fold max (Ideal.ofBits .f32 0xFF800000#32) fun k : Fin 1280 => L (ix3 b t k)))
          (∑ k : Fin 1280, Ideal.exp (L (ix3 b t k)
            - Finset.univ.fold max (Ideal.ofBits .f32 0xFF800000#32) fun k : Fin 1280 => L (ix3 b t k))) :=
  Online.softmax_quotient (fun k : Fin 1280 => L (ix3 b t k)) (fun k => h _) s

end Cert.Proof.Plain

end
end
-- ==== Proof.Result.lean ====
module

public import proofs.«01_k».proof.Proof.Chain
public import proofs.«01_k».proof.Proof.V0
public import proofs.«01_k».proof.Proof.V1
public import proofs.«01_k».proof.Proof.V2
public import proofs.«01_k».proof.Proof.V3
public import proofs.«01_k».proof.Proof.V4
public import proofs.«01_k».proof.Proof.Plain

/-! The four results of the program, followed through the five calls and compared with the reference's. -/

set_option maxRecDepth 16384

@[expose] public section

noncomputable section

open Idealize.ShloMosaic Idealize.ShloMosaic.TcCoe Idealize.SL.Sem

namespace Cert.Proof.Result
open Cert.KernelIdeal Cert.KernelIdeal.Gen Cert.Proof.Chain Cert.Proof.Spec Cert.Proof.Plain

section pure
variable (L E G : FVec Ideal S6x3072x1280 .f32) (T : FVec Ideal S6x8x1280 .f32)
  (hT : ∀ i, V0.Stats L E i (T i))
include hT

theorem row0 (b : Fin 6) (s : Fin 1280) : T (ix3 b 0 s) = top L b s := (hT (ix3 b 0 s)).1 rfl
theorem row1 (b : Fin 6) (s : Fin 1280) : T (ix3 b 1 s) = ∑ k : Fin 3072, Ideal.exp (L (ix3 b k s) - top L b s) :=
  (hT (ix3 b 1 s)).2.1 rfl
theorem row2 (b : Fin 6) (s : Fin 1280) :
    T (ix3 b 2 s) = ∑ k : Fin 3072, Ideal.exp (L (ix3 b k s) - top L b s) * E (ix3 b k s) := (hT (ix3 b 2 s)).2.2 rfl

/-- The softmax read off the statistics is the softmax along the tokens. -/
theorem disp_eq : disp L T = column L := by
  funext j; idx_vars j
  show Ideal.exp (L (ix3 j0 j1 j2) - T (ix3 j0 0 j2)) * Ideal.div 1 (T (ix3 j0 1 j2)) = _
  rw [row0 L E T hT, row1 L E T hT]; rfl

/-- One sum of products, normalised once, is the sum of the normalised products. -/
theorem dlog_eq : dlog L E G T = dl L E G := by
  funext j; unfold dlog dl colGrad
  rw [disp_eq L E T hT]
  idx_vars j
  show _ + _ * (_ - T (ix3 j0 2 j2) * Ideal.div 1 (T (ix3 j0 1 j2))) = _
  rw [row1 L E T hT, row2 L E T hT, Online.sum_normalised _ _ _ fun _ => Online.exp_nonneg _]
  rfl

end pure

variable (m : (ℓ : Loc nD τ sig) → Buf (Elt Ideal) ℓ) (c : Dev nD)

/-- The arguments as launched. -/
abbrev A (r : Ref sig .tc) : Buf (Elt Ideal) ((c : Thread nD τ).loc r) := m ((c : Thread nD τ).loc r)

/-- The column scales after the cast on the host. -/
theorem reshaped : at_ (W1 m) c main_v0 = row (A m c main_arg3) := by
  show StableHlo.after hostOps0 _ _ = _
  rw [StableHlo.after_cons, StableHlo.after_nil, StableHlo.reshape_result']
  funext j
  pointwise [row]

/-! What each call finds, in terms of the arguments as launched. -/

/-- The logits. -/
abbrev LL : FVec Ideal S6x3072x1280 .f32 :=
  logit (A m c main_arg0) (A m c main_arg1) (A m c main_arg2) (row (A m c main_arg3))
/-- The dispatch scores. -/
abbrev EE : FVec Ideal S6x3072x1280 .f32 :=
  score (φ := .fp8e4m3) (ψ := .fp8e5m2) (A m c main_arg0) (A m c main_arg8) (A m c main_arg1) (A m c main_arg9)
/-- The combine scores. -/
abbrev GG : FVec Ideal S6x3072x1280 .f32 :=
  score (φ := .fp8e5m2) (ψ := .fp8e4m3) (A m c main_arg6) (A m c main_arg4) (A m c main_arg7) (A m c main_arg5)

theorem kept1 (r : Ref sig .tc) (h : r ∉ hostOps0_W) : at_ (W1 m) c r = A m c r := W1_of m c r h
theorem kept2 (r : Ref sig .tc) (h : r ∉ hostOps0_W) (h0 : ∀ w, Pipeline.arrRef spec0 w = r → (cfg0.win w).isOut = false) :
    at_ (W2 m) c r = A m c r := (W2_of m c r h0).trans (kept1 m c r h )
theorem kept3 (r : Ref sig .tc) (h : r ∉ hostOps0_W) (h0 : ∀ w, Pipeline.arrRef spec0 w = r → (cfg0.win w).isOut = false) (h1 : ∀ w, Pipeline.arrRef spec1 w = r → (cfg1.win w).isOut = false) :
    at_ (W3 m) c r = A m c r := (W3_of m c r h1).trans (kept2 m c r h h0)
theorem kept4 (r : Ref sig .tc) (h : r ∉ hostOps0_W) (h0 : ∀ w, Pipeline.arrRef spec0 w = r → (cfg0.win w).isOut = false) (h1 : ∀ w, Pipeline.arrRef spec1 w = r → (cfg1.win w).isOut = false) (h2 : ∀ w, Pipeline.arrRef spec2 w = r → (cfg2.win w).isOut = false) :
    at_ (W4 m) c r = A m c r := (W4_of m c r h2).trans (kept3 m c r h h0 h1)
theorem kept5 (r : Ref sig .tc) (h : r ∉ hostOps0_W) (h0 : ∀ w, Pipeline.arrRef spec0 w = r → (cfg0.win w).isOut = false) (h1 : ∀ w, Pipeline.arrRef spec1 w = r → (cfg1.win w).isOut = false) (h2 : ∀ w, Pipeline.arrRef spec2 w = r → (cfg2.win w).isOut = false) (h3 : ∀ w, Pipeline.arrRef spec3 w = r → (cfg3.win w).isOut = false) :
    at_ (W5 m) c r = A m c r := (W5_of m c r h3).trans (kept4 m c r h h0 h1 h2)

theorem LL_eq : V0.LG (at_ (W1 m)) c = LL m c := by
  unfold V0.LG
  rw [reshaped, kept1 m c main_arg0 (by decide), kept1 m c main_arg1 (by decide), kept1 m c main_arg2 (by decide)]

theorem EE_eq : V0.DD (at_ (W1 m)) c = EE m c := by
  unfold V0.DD
  rw [kept1 m c main_arg0 (by decide), kept1 m c main_arg1 (by decide), kept1 m c main_arg8 (by decide), kept1 m c main_arg9 (by decide)]

theorem GG_eq : V1.grad (at_ (W2 m)) c = GG m c := by
  unfold V1.grad
  rw [kept2 m c main_arg6 (by decide) (by decide), kept2 m c main_arg4 (by decide) (by decide), kept2 m c main_arg7 (by decide) (by decide), kept2 m c main_arg5 (by decide) (by decide)]

theorem logits2 : at_ (W2 m) c main_v1_0 = LL m c := (W2_arr m c 6).trans ((V0.final6 _ c).trans (LL_eq m c))
theorem scores2 : at_ (W2 m) c main_v1_1 = EE m c := (W2_arr m c 7).trans ((V0.final7 _ c).trans (EE_eq m c))
theorem stats2 (i : S6x8x1280.Idx) : V0.Stats (LL m c) (EE m c) i (at_ (W2 m) c main_v1_2 i) := by
  have h := V0.final8 (at_ (W1 m)) c i
  rw [LL_eq, EE_eq, ← W2_arr m c 8] at h
  exact h

theorem dlog2 : dlog (at_ (W2 m) c main_v1_0) (at_ (W2 m) c main_v1_1) (V1.grad (at_ (W2 m)) c) (at_ (W2 m) c main_v1_2)
    = dl (LL m c) (EE m c) (GG m c) := by
  rw [logits2, scores2, GG_eq]
  exact dlog_eq _ _ _ _ (stats2 m c)

theorem disp2 : disp (at_ (W2 m) c main_v1_0) (at_ (W2 m) c main_v1_2) = column (LL m c) := by
  rw [logits2]
  exact disp_eq _ (EE m c) _ (stats2 m c)

theorem dl3 : at_ (W3 m) c main_v2_0 = dl (LL m c) (EE m c) (GG m c) :=
  (W3_arr m c 8).trans ((V1.final8 _ c).trans (dlog2 m c))
theorem dl3' : at_ (W3 m) c main_v2_1 = dl (LL m c) (EE m c) (GG m c) :=
  (W3_arr m c 9).trans ((V1.final9 _ c).trans (dlog2 m c))
theorem dlT3 : at_ (W3 m) c main_v2_2 = fun j : S6x1280x3072.Idx => dl (LL m c) (EE m c) (GG m c) (ix3 (j 0) (j 2) (j 1)) :=
  (W3_arr m c 10).trans ((V1.final10 _ c).trans (by rw [dlog2]))
theorem disp3 : at_ (W3 m) c main_v2_3 = fun j : S6x3072x1280.Idx => column (LL m c) j * (A m c main_arg9 : FVec Ideal S6x1280 .f32) (ix2 (j 0) (j 2)) :=
  (W3_arr m c 11).trans ((V1.final11 _ c).trans (by rw [disp2, kept2 m c main_arg9 (by decide) (by decide)]))
theorem combT3 : at_ (W3 m) c main_v2_4 = fun j : S6x1280x3072.Idx =>
    comb (LL m c) (ix3 (j 0) (j 2) (j 1)) * (A m c main_arg7 : FVec Ideal S6x3072 .f32) (ix2 (j 0) (j 2)) :=
  (W3_arr m c 12).trans ((V1.final12 _ c).trans (by rw [logits2, kept2 m c main_arg7 (by decide) (by decide)]))

theorem row3 : at_ (W3 m) c main_v0 = row (A m c main_arg3) :=
  (W3_of m c main_v0 (by decide)).trans ((W2_of m c main_v0 (by decide)).trans (reshaped m c))

/-- The reference's four results of the arguments as launched. -/
abbrev R0 := Cert.ReferenceIdeal.Value.G10 (F := Ideal) (A m c main_arg0) (A m c main_arg1) (A m c main_arg2) (A m c main_arg3) (A m c main_arg4) (A m c main_arg5) (A m c main_arg6) (A m c main_arg7) (A m c main_arg8) (A m c main_arg9)
abbrev R1 := Cert.ReferenceIdeal.Value.G11 (F := Ideal) (A m c main_arg0) (A m c main_arg1) (A m c main_arg2) (A m c main_arg3) (A m c main_arg4) (A m c main_arg5) (A m c main_arg6) (A m c main_arg7) (A m c main_arg8) (A m c main_arg9)
abbrev R2 := Cert.ReferenceIdeal.Value.G12 (F := Ideal) (A m c main_arg0) (A m c main_arg1) (A m c main_arg2) (A m c main_arg3) (A m c main_arg4) (A m c main_arg5) (A m c main_arg6) (A m c main_arg7) (A m c main_arg8) (A m c main_arg9)
abbrev R3 := Cert.ReferenceIdeal.Value.G13 (F := Ideal) (A m c main_arg0) (A m c main_arg1) (A m c main_arg2) (A m c main_arg3) (A m c main_arg4) (A m c main_arg5) (A m c main_arg6) (A m c main_arg7) (A m c main_arg8) (A m c main_arg9)

/-- Result 4. -/
theorem dlogits : W6 m c (Proc.devRef .tc main_v2_0) = R3 m c :=
  (W6_of m c main_v2_0 (by decide)).trans ((W5_of m c main_v2_0 (by decide)).trans ((W4_of m c main_v2_0 (by decide)).trans ((dl3 m c).trans
    (dlogits_eq (A m c main_arg0) (A m c main_arg1) (A m c main_arg2) (A m c main_arg3) (A m c main_arg4) (A m c main_arg5) (A m c main_arg6) (A m c main_arg7) (A m c main_arg8) (A m c main_arg9)).symm)))

/-- Result 3. -/
theorem dslot : W6 m c (Proc.devRef .tc main_v4) = R2 m c := by
  refine (W6_of m c main_v4 (by decide)).trans ((W5_arr m c 2).trans ((V3.final _ c).trans ?_))
  have e : at_ (W4 m) c main_v2_4 = _ := (W4_of m c main_v2_4 (by decide)).trans (combT3 m c)
  rw [e, kept4 m c main_arg6 (by decide) (by decide) (by decide) (by decide)]
  exact (dslot_eq (A m c main_arg0) (A m c main_arg1) (A m c main_arg2) (A m c main_arg3) (A m c main_arg4) (A m c main_arg5) (A m c main_arg6) (A m c main_arg7) (A m c main_arg8) (A m c main_arg9)).symm

/-- Result 1. -/
theorem dx : W6 m c (Proc.devRef .tc main_v3) = R0 m c := by
  refine (W6_of m c main_v3 (by decide)).trans ((W5_of m c main_v3 (by decide)).trans ((W4_arr m c 5).trans ((V2.final _ c).trans ?_)))
  rw [disp3, dl3', row3, kept3 m c main_arg8 (by decide) (by decide) (by decide), kept3 m c main_arg2 (by decide) (by decide) (by decide)]
  exact (dx_eq (A m c main_arg0) (A m c main_arg1) (A m c main_arg2) (A m c main_arg3) (A m c main_arg4) (A m c main_arg5) (A m c main_arg6) (A m c main_arg7) (A m c main_arg8) (A m c main_arg9)).symm

/-- Result 2. -/
theorem dphi : W6 m c (Proc.devRef .tc main_v5) = R1 m c := by
  refine (W6_arr m c 3).trans ((V4.final _ c).trans ?_)
  have e : at_ (W5 m) c main_v2_2 = _ := (W5_of m c main_v2_2 (by decide)).trans ((W4_of m c main_v2_2 (by decide)).trans (dlT3 m c))
  rw [e, kept5 m c main_arg0 (by decide) (by decide) (by decide) (by decide) (by decide), kept5 m c main_arg1 (by decide) (by decide) (by decide) (by decide) (by decide)]
  exact (dphi_eq (A m c main_arg0) (A m c main_arg1) (A m c main_arg2) (A m c main_arg3) (A m c main_arg4) (A m c main_arg5) (A m c main_arg6) (A m c main_arg7) (A m c main_arg8) (A m c main_arg9)).symm

end Cert.Proof.Result

end
end
-- ==== Proof.lean ====
/- The certificate of the program: every claim of Defs.lean, assembled. The frames are read off the run of the whole chain
   of regions (Proof/Chain.lean for the program over the reals, Proof/BChain.lean for the program over the machine's
   words); the equality of the results with the reference's is Proof/Result.lean. -/
module

public import proofs.«01_k».proof.Defs
public import proofs.«01_k».proof.Proof.Gen.ReferenceIdeal.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Chain
public import proofs.«01_k».proof.Proof.BChain
public import proofs.«01_k».proof.Proof.Result

@[expose] public section

noncomputable section

namespace Cert.Proof

open Idealize.ShloMosaic Idealize.SL.Sem

/-- From arrays that agree on the arguments, the program and the reference end with the same four results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Result.R0 m c, fun c => Result.R1 m c, fun c => Result.R2 m c, fun c => Result.R3 m c, ?_, ?_⟩
  · exact (θ_run _ _ _).mono (fun r h c => by
      obtain ⟨h0, h1, h2, h3, hk⟩ := h c
      exact ⟨h0.trans (Result.dx m c), h1.trans (Result.dphi m c), h2.trans (Result.dslot m c), h3.trans (Result.dlogits m c), hk⟩)
      (Chain.run_results m g)
  · exact (θ_run _ _ _).mono (fun r h c => by
      obtain ⟨h0, h1, h2, h3, hk⟩ := h c
      obtain ⟨e0, e1, e2, e3, e4, e5, e6, e7, e8, e9⟩ := hargs c
      refine ⟨h0.trans ?_, h1.trans ?_, h2.trans ?_, h3.trans ?_, hk⟩ <;>
        (rw [e0, e1, e2, e3, e4, e5, e6, e7, e8, e9]))
      (Cert.ReferenceIdeal.Value.run m' g')

theorem claim : Cert.Claim :=
  ⟨Cert.Kernel.Gen.facts, Cert.KernelIdeal.Gen.facts, Cert.ReferenceIdeal.Gen.facts,
    fun m ρ _ => BChain.frame m ρ, fun m ρ _ => Chain.frame m ρ, fun m ρ _ => Cert.ReferenceIdeal.Gen.frame m ρ, trivial, algebraic⟩

end Cert.Proof

end
